-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_finite [hPre_scales_finite : Cert.Pre_scales_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scales_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_finite [hPre_scales_finite : Cert.Pre_scales_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_scales_finite [hKernelIdeal : Cert.KernelIdeal.Facts] [hPre_scales_finite : Cert.Pre_scales_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_scales_finite [hReferenceIdeal : Cert.ReferenceIdeal.Facts] [hPre_scales_finite : Cert.Pre_scales_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_scales_finite [hKernelIdeal : Cert.KernelIdeal.Facts] [hReferenceIdeal : Cert.ReferenceIdeal.Facts] [hPre_scales_finite : Cert.Pre_scales_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v9) = v2 c
          ∧ r.2.mem ((c.tc : Thread Cert.ReferenceIdeal.nD Cert.ReferenceIdeal.τ).loc Cert.ReferenceIdeal.main_v3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_scales_finite : Cert.Pre_scales_finite.Facts),
    quiescent_Kernel (hKernel := hKernel)
    ∧ quiescent_KernelIdeal (hKernelIdeal := hKernelIdeal)
    ∧ quiescent_KernelIdeal_pre_scales_finite (hKernelIdeal := hKernelIdeal) (hPre_scales_finite := hPre_scales_finite)
    ∧ quiescent_ReferenceIdeal (hReferenceIdeal := hReferenceIdeal)
    ∧ quiescent_ReferenceIdeal_pre_scales_finite (hReferenceIdeal := hReferenceIdeal) (hPre_scales_finite := hPre_scales_finite)
    ∧ preserves_Kernel_KernelIdeal
    ∧ algebraic_KernelIdeal_ReferenceIdeal_pre_scales_finite (hKernelIdeal := hKernelIdeal) (hReferenceIdeal := hReferenceIdeal) (hPre_scales_finite := hPre_scales_finite)
-- ==== Pre_scales_finite.lean ====
abbrev S8x2048x4096 : Shape := ⟨3, ![8, 2048, 4096]⟩
abbrev S1920x14336 : Shape := ⟨2, ![1920, 14336]⟩
abbrev S14336 : Shape := ⟨1, ![14336]⟩
abbrev S256x14336 : Shape := ⟨2, ![256, 14336]⟩
abbrev S_ : Shape := ⟨0, ![]⟩

class Facts : Prop where
  bcast_S_S14336 : S_.BroadcastsInDim S14336 (![] : Fin 0 → Fin S14336.rank)

variable [Facts]

def fn {F : FTy → Type} [FloatOps F] (main_arg0 : FVec F S8x2048x4096 .bf16) (main_arg1 : IVec S1920x14336 8) (main_arg2 : FVec F S14336 .f32) (main_arg3 : FVec F S256x14336 .bf16) : IVec S14336 1 :=
  let main_v0 : FVec F S14336 .f32 := Host.absf main_arg2
  let main_cst : FVec F S_ .f32 := constant S_ .f32 0x7F800000#32
  let main_v1 : FVec F S14336 .f32 := broadcastInDim S14336 ![] bcast_S_S14336 main_cst
  let main_v2 : IVec S14336 1 := cmpf .olt main_v0 main_v1
  main_v2
-- ==== Kernel.lean ====
abbrev S8x2048x4096 : Shape := ⟨3, ![8, 2048, 4096]⟩
abbrev S1920x14336 : Shape := ⟨2, ![1920, 14336]⟩
abbrev S14336 : Shape := ⟨1, ![14336]⟩
abbrev S256x14336 : Shape := ⟨2, ![256, 14336]⟩
abbrev S16384x4096 : Shape := ⟨2, ![16384, 4096]⟩
abbrev S16384x3840 : Shape := ⟨2, ![16384, 3840]⟩
abbrev S16384x1 : Shape := ⟨2, ![16384, 1]⟩
abbrev S256x3840 : Shape := ⟨2, ![256, 3840]⟩
abbrev S256x1 : Shape := ⟨2, ![256, 1]⟩
abbrev S256 : Shape := ⟨1, ![256]⟩
abbrev S1x14336 : Shape := ⟨2, ![1, 14336]⟩
abbrev S16384x14336 : Shape := ⟨2, ![16384, 14336]⟩
abbrev S1024x3840 : Shape := ⟨2, ![1024, 3840]⟩
abbrev S1024x256 : Shape := ⟨2, ![1024, 256]⟩
abbrev S1920x1024 : Shape := ⟨2, ![1920, 1024]⟩
abbrev S1x1024 : Shape := ⟨2, ![1, 1024]⟩
abbrev S256x1024 : Shape := ⟨2, ![256, 1024]⟩
abbrev S1024x1 : Shape := ⟨2, ![1024, 1]⟩
abbrev S1024x1024 : Shape := ⟨2, ![1024, 1024]⟩
abbrev S3840x1024 : Shape := ⟨2, ![3840, 1024]⟩
abbrev S1920x1x1024 : Shape := ⟨3, ![1920, 1, 1024]⟩
abbrev S1920x2x1024 : Shape := ⟨3, ![1920, 2, 1024]⟩
abbrev S1024 : Shape := ⟨1, ![1024]⟩
abbrev S8x2048x14336 : Shape := ⟨3, ![8, 2048, 14336]⟩
abbrev S8x2048x3840 : Shape := ⟨3, ![8, 2048, 3840]⟩
abbrev S8x2048 : Shape := ⟨2, ![8, 2048]⟩

abbrev nBuf : Space → Nat
  | .hbm => 16
  | .vmem => 30
  | .smem => 0
  | _ => 0

abbrev bufTy : (tb : Table) → Fin (tcTables nBuf tb) → BufTy
  | .hbm, ⟨0, _⟩ => ⟨S8x2048x4096, .bf16⟩
  | .hbm, ⟨1, _⟩ => ⟨S1920x14336, .i8⟩
  | .hbm, ⟨2, _⟩ => ⟨S14336, .f32⟩
  | .hbm, ⟨3, _⟩ => ⟨S256x14336, .bf16⟩
  | .hbm, ⟨4, _⟩ => ⟨S16384x4096, .bf16⟩
  | .hbm, ⟨5, _⟩ => ⟨S16384x3840, .i8⟩
  | .hbm, ⟨6, _⟩ => ⟨S16384x3840, .fp8e4m3⟩
  | .hbm, ⟨7, _⟩ => ⟨S16384x1, .f32⟩
  | .hbm, ⟨8, _⟩ => ⟨S16384x1, .f32⟩
  | .hbm, ⟨9, _⟩ => ⟨S16384x1, .f32⟩
  | .hbm, ⟨10, _⟩ => ⟨S1x14336, .f32⟩
  | .hbm, ⟨11, _⟩ => ⟨S16384x14336, .bf16⟩
  | .hbm, ⟨12, _⟩ => ⟨S8x2048x14336, .bf16⟩
  | .hbm, ⟨13, _⟩ => ⟨S8x2048x3840, .i8⟩
  | .hbm, ⟨14, _⟩ => ⟨S8x2048, .f32⟩
  | .hbm, ⟨15, _⟩ => ⟨S8x2048, .f32⟩
  | .local _ .vmem, ⟨0, _⟩ => ⟨S256x3840, .bf16⟩
  | .local _ .vmem, ⟨1, _⟩ => ⟨S256x3840, .bf16⟩
  | .local _ .vmem, ⟨2, _⟩ => ⟨S256x3840, .i8⟩
  | .local _ .vmem, ⟨3, _⟩ => ⟨S256x3840, .i8⟩
  | .local _ .vmem, ⟨4, _⟩ => ⟨S256x3840, .fp8e4m3⟩
  | .local _ .vmem, ⟨5, _⟩ => ⟨S256x3840, .fp8e4m3⟩
  | .local _ .vmem, ⟨6, _⟩ => ⟨S256x1, .f32⟩
  | .local _ .vmem, ⟨7, _⟩ => ⟨S256x1, .f32⟩
  | .local _ .vmem, ⟨8, _⟩ => ⟨S256x1, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | .local _ .vmem, ⟨12, _⟩ => ⟨S1024x3840, .fp8e4m3⟩
  | .local _ .vmem, ⟨13, _⟩ => ⟨S1024x3840, .fp8e4m3⟩
  | .local _ .vmem, ⟨14, _⟩ => ⟨S1024x256, .bf16⟩
  | .local _ .vmem, ⟨15, _⟩ => ⟨S1024x256, .bf16⟩
  | .local _ .vmem, ⟨16, _⟩ => ⟨S1920x1024, .i8⟩
  | .local _ .vmem, ⟨17, _⟩ => ⟨S1920x1024, .i8⟩
  | .local _ .vmem, ⟨18, _⟩ => ⟨S1x1024, .f32⟩
  | .local _ .vmem, ⟨19, _⟩ => ⟨S1x1024, .f32⟩
  | .local _ .vmem, ⟨20, _⟩ => ⟨S256x1024, .bf16⟩
  | .local _ .vmem, ⟨21, _⟩ => ⟨S256x1024, .bf16⟩
  | .local _ .vmem, ⟨22, _⟩ => ⟨S1024x1, .f32⟩
  | .local _ .vmem, ⟨23, _⟩ => ⟨S1024x1, .f32⟩
  | .local _ .vmem, ⟨24, _⟩ => ⟨S1024x1, .f32⟩
  | .local _ .vmem, ⟨25, _⟩ => ⟨S1024x1, .f32⟩
  | .local _ .vmem, ⟨26, _⟩ => ⟨S1024x1024, .bf16⟩
  | .local _ .vmem, ⟨27, _⟩ => ⟨S1024x1024, .bf16⟩
  | .local _ .vmem, ⟨28, _⟩ => ⟨S3840x1024, .fp8e4m3⟩
  | .local _ .vmem, ⟨29, _⟩ => ⟨S1x1024, .f32⟩
  | _, _ => ⟨S8x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_scratch0 : Ref sig .tc := ⟨.vmem, 28, rfl⟩
abbrev cc1_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3840 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3840 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3840 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![14, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c15_i32 : BitVec 32 := 15#32
  let c0_i32 : BitVec 32 := 0#32
  ![arg1.toNat, c15_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x3840 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1920x1024 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S256x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1024x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1024x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S1024x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== ReferenceIdeal.lean ====
abbrev S8x2048x4096 : Shape := ⟨3, ![8, 2048, 4096]⟩
abbrev S1920x14336 : Shape := ⟨2, ![1920, 14336]⟩
abbrev S14336 : Shape := ⟨1, ![14336]⟩
abbrev S256x14336 : Shape := ⟨2, ![256, 14336]⟩
abbrev S8x2048x3840 : Shape := ⟨3, ![8, 2048, 3840]⟩
abbrev S8x2048x256 : Shape := ⟨3, ![8, 2048, 256]⟩
abbrev S_ : Shape := ⟨0, ![]⟩
abbrev S8x2048 : Shape := ⟨2, ![8, 2048]⟩
abbrev S8x2048x1 : Shape := ⟨3, ![8, 2048, 1]⟩
abbrev S1920x1x14336 : Shape := ⟨3, ![1920, 1, 14336]⟩
abbrev S1920x2x14336 : Shape := ⟨3, ![1920, 2, 14336]⟩
abbrev S3840x14336 : Shape := ⟨2, ![3840, 14336]⟩
abbrev S8x2048x14336 : Shape := ⟨3, ![8, 2048, 14336]⟩
abbrev S1x1x14336 : Shape := ⟨3, ![1, 1, 14336]⟩

abbrev nBuf : Space → Nat
  | .hbm => 78
  | .vmem => 0
  | .smem => 0
  | _ => 0

abbrev bufTy : (tb : Table) → Fin (tcTables nBuf tb) → BufTy
  | .hbm, ⟨0, _⟩ => ⟨S8x2048x4096, .bf16⟩
  | .hbm, ⟨1, _⟩ => ⟨S1920x14336, .i8⟩
  | .hbm, ⟨2, _⟩ => ⟨S14336, .f32⟩
  | .hbm, ⟨3, _⟩ => ⟨S256x14336, .bf16⟩
  | .hbm, ⟨4, _⟩ => ⟨S8x2048x3840, .bf16⟩
  | .hbm, ⟨5, _⟩ => ⟨S8x2048x256, .bf16⟩
  | .hbm, ⟨6, _⟩ => ⟨S8x2048x3840, .f32⟩
  | .hbm, ⟨7, _⟩ => ⟨S_, .f32⟩
  | .hbm, ⟨8, _⟩ => ⟨S8x2048, .f32⟩
  | .hbm, ⟨9, _⟩ => ⟨S_, .f32⟩
  | .hbm, ⟨10, _⟩ => ⟨S8x2048, .f32⟩
  | .hbm, ⟨11, _⟩ => ⟨S8x2048, .i1⟩
  | .hbm, ⟨12, _⟩ => ⟨S8x2048, .f32⟩
  | .hbm, ⟨13, _⟩ => ⟨S_, .f32⟩
  | .hbm, ⟨14, _⟩ => ⟨S8x2048, .f32⟩
  | .hbm, ⟨15, _⟩ => ⟨S8x2048, .f32⟩
  | .hbm, ⟨16, _⟩ => ⟨S_, .f32⟩
  | .hbm, ⟨17, _⟩ => ⟨S8x2048, .f32⟩
  | .hbm, ⟨18, _⟩ => ⟨S8x2048, .f32⟩
  | .hbm, ⟨19, _⟩ => ⟨S8x2048x1, .f32⟩
  | .hbm, ⟨20, _⟩ => ⟨S8x2048x3840, .f32⟩
  | .hbm, ⟨21, _⟩ => ⟨S8x2048x3840, .f32⟩
  | .hbm, ⟨22, _⟩ => ⟨S8x2048x1, .f32⟩
  | .hbm, ⟨23, _⟩ => ⟨S8x2048x3840, .f32⟩
  | .hbm, ⟨24, _⟩ => ⟨S8x2048x3840, .f32⟩
  | .hbm, ⟨25, _⟩ => ⟨S8x2048x3840, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8x2048x3840, .f32⟩
  | .hbm, ⟨30, _⟩ => ⟨S8x2048x3840, .f32⟩
  | .hbm, ⟨31, _⟩ => ⟨S_, .f32⟩
  | .hbm, ⟨32, _⟩ => ⟨S8x2048x3840, .f32⟩
  | .hbm, ⟨33, _⟩ => ⟨S8x2048x3840, .f32⟩
  | .hbm, ⟨34, _⟩ => ⟨S8x2048x3840, .i32⟩
  | .hbm, ⟨35, _⟩ => ⟨S8x2048x3840, .i8⟩
  | .hbm, ⟨36, _⟩ => ⟨S1920x14336, .i32⟩
  | .hbm, ⟨37, _⟩ => ⟨S_, .i32⟩
  | .hbm, ⟨38, _⟩ => ⟨S1920x14336, .i32⟩
  | .hbm, ⟨39, _⟩ => ⟨S1920x14336, .i32⟩
  | .hbm, ⟨40, _⟩ => ⟨S_, .i32⟩
  | .hbm, ⟨41, _⟩ => ⟨S1920x14336, .i32⟩
  | .hbm, ⟨42, _⟩ => ⟨S1920x14336, .i32⟩
  | .hbm, ⟨43, _⟩ => ⟨S_, .i32⟩
  | .hbm, ⟨44, _⟩ => ⟨S1920x14336, .i32⟩
  | .hbm, ⟨45, _⟩ => ⟨S1920x14336, .i32⟩
  | .hbm, ⟨46, _⟩ => ⟨S_, .i32⟩
  | .hbm, ⟨47, _⟩ => ⟨S1920x14336, .i32⟩
  | .hbm, ⟨48, _⟩ => ⟨S1920x14336, .i32⟩
  | .hbm, ⟨49, _⟩ => ⟨S1920x1x14336, .i32⟩
  | .hbm, ⟨50, _⟩ => ⟨S1920x1x14336, .i32⟩
  | .hbm, ⟨51, _⟩ => ⟨S1920x2x14336, .i32⟩
  | .hbm, ⟨52, _⟩ => ⟨S3840x14336, .i32⟩
  | .hbm, ⟨53, _⟩ => ⟨S8x2048x3840, .i32⟩
  | .hbm, ⟨54, _⟩ => ⟨S8x2048x3840, .f32⟩
  | .hbm, ⟨55, _⟩ => ⟨S8x2048x3840, .bf16⟩
  | .hbm, ⟨56, _⟩ => ⟨S3840x14336, .f32⟩
  | .hbm, ⟨57, _⟩ => ⟨S3840x14336, .bf16⟩
  | .hbm, ⟨58, _⟩ => ⟨S8x2048x14336, .f32⟩
  | .hbm, ⟨59, _⟩ => ⟨S_, .i32⟩
  | .hbm, ⟨60, _⟩ => ⟨S14336, .i32⟩
  | .hbm, ⟨61, _⟩ => ⟨S14336, .f32⟩
  | .hbm, ⟨62, _⟩ => ⟨S8x2048x14336, .f32⟩
  | .hbm, ⟨63, _⟩ => ⟨S8x2048x1, .f32⟩
  | .hbm, ⟨64, _⟩ => ⟨S1x1x14336, .f32⟩
  | .hbm, ⟨65, _⟩ => ⟨S8x2048x14336, .f32⟩
  | .hbm, ⟨66, _⟩ => ⟨S8x2048x14336, .f32⟩
  | .hbm, ⟨67, _⟩ => ⟨S8x2048x14336, .f32⟩
  | .hbm, ⟨68, _⟩ => ⟨S8x2048x14336, .f32⟩
  | .hbm, ⟨69, _⟩ => ⟨S8x2048x1, .f32⟩
  | .hbm, ⟨70, _⟩ => ⟨S14336, .f32⟩
  | .hbm, ⟨71, _⟩ => ⟨S1x1x14336, .f32⟩
  | .hbm, ⟨72, _⟩ => ⟨S8x2048x14336, .f32⟩
  | .hbm, ⟨73, _⟩ => ⟨S8x2048x14336, .f32⟩
  | .hbm, ⟨74, _⟩ => ⟨S8x2048x14336, .f32⟩
  | .hbm, ⟨75, _⟩ => ⟨S8x2048x14336, .f32⟩
  | .hbm, ⟨76, _⟩ => ⟨S8x2048x14336, .f32⟩
  | .hbm, ⟨77, _⟩ => ⟨S8x2048x14336, .bf16⟩
  | _, _ => ⟨S8x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_cst_4 : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_c_7 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]
-- ==== Proof.KernelRun.Region0.lean ====
/- The quantiser call (region 0): what its body leaves in each output block, the pipeline's proof data over any
   contents `V` the region is entered with, and the body obligation at every grid point. -/
module

public import proofs.«01_k».proof.Proof.Gen.Kernel.Skeleton
public import proofs.«01_k».proof.Proof.Gen.Kernel.Launch
public import proofs.«01_k».proof.Proof.Gen.Kernel.Points
public import Idealize.ShloMosaic.Lib.Pipeline.FrameBody
public import Idealize.ShloMosaic.Lib.Pipeline.Frame
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's block width does not divide its array's, but no block the grid reaches is cut, so a fetch fills the
    whole staging buffer: a default for the part left unfilled, which nothing reads. -/
def dflt0_0 : (cfg0.win 0).block.Idx → Elt F (cfg0.win 0).elt := fun _ => Classical.choice inferInstance
/-- The input's block at point `t`, as the whole staging buffer holds it. -/
def X0_0 (c : Dev nD) (t : Fin cfg0.N) : (cfg0.win 0).block.Idx → Elt F (cfg0.win 0).elt :=
  (cfg0.win 0).fill (cfg0.grid.coords t) dflt0_0 (iblk0 V c 0 t)
/-- No block the grid reaches is cut. -/
theorem xsize0_0 : ∀ t : Fin cfg0.N, ∀ a, (cfg0.win 0).xsize (cfg0.grid.coords t) a = (cfg0.win 0).size a := by decide +kernel
/-- So every index of the staging buffer is one a fetch fills. -/
theorem moved0_0 (t : Fin cfg0.N) (j : (cfg0.win 0).block.Idx) : (cfg0.win 0).moved (cfg0.grid.coords t) j = true :=
  ((cfg0.win 0).moved_iff _ j).mpr fun a => by rw [xsize0_0 t a]; exact (j a).isLt
/-- … and what it held before does not matter. -/
theorem fill0_0 (t : Fin cfg0.N) (d d' : (cfg0.win 0).block.Idx → Elt F (cfg0.win 0).elt) (g) :
    (cfg0.win 0).fill (cfg0.grid.coords t) d g = (cfg0.win 0).fill (cfg0.grid.coords t) d' g := by
  funext j; unfold Pipeline.Window.fill; rw [dif_pos (moved0_0 t j), dif_pos (moved0_0 t j)]
/-- The input's staging buffer holds its block at every point, for any proof data whose array is `V`'s and whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = X0_0 V c t) (t : Fin cfg0.N) (d) : dat.before 0 t d = X0_0 V c t :=
  (dat.before_in_eq_fetched 0 rfl (fun _ => rfl)
      (fun t t' h => funext fun a => congrArg (fun n => Pipeline.Clip.of n ((cfg0.win 0).size a) (S16384x4096.size a)) (congrFun h a))
      (fun t => by rw [hafter]; unfold X0_0; rw [Pipeline.Window.cut_fill]; unfold Dat.blockOf iblk0; rw [hA]; try rfl) t d).trans
    (by unfold Dat.fetched X0_0; rw [fill0_0 t d dflt0_0]; unfold Dat.blockOf iblk0; rw [hA]; try rfl)

/-! ## The body's accesses -/

/-- The whole of a 256×3840 block. -/
abbrev rX : Rect S256x3840 := Rect.unit (s := S256x3840) ![0, 0] S256x3840.size inb_S256x3840_S256x3840_0_0
/-- The whole of a 256×1 block. -/
abbrev rC : Rect S256x1 := Rect.unit (s := S256x1) ![0, 0] S256x1.size inb_S256x1_S256x1_0_0

/-! ## What the body leaves in each output window's buffer -/

/-- Output window 1 (the codes) after the body, from the input block. -/
def out0_1 (x0 : Vec F S256x3840 .bf16) : Vec F S256x3840 .i8 := View.canon [⟨rX, k0_pay6 (View.ld x0 rX)⟩]
/-- Its one store covers the buffer. -/
theorem cover0_1 (p0 : Vec F S256x3840 .i8) (y : S256x3840.Idx) :
    ∃ pc ∈ ([⟨rX, p0⟩] : List (View.Piece (Elt F) S256x3840 .i8)), y ∈ pc.1.set :=
  View.cover_of_tiled [⟨rX, p0⟩] S256x3840.size (by rfl) y

/-- Output window 2 (the codes less the zero point) after the body, from the input block. -/
def out0_2 (x0 : Vec F S256x3840 .bf16) : Vec F S256x3840 .fp8e4m3 := View.canon [⟨rX, k0_pay8 (View.ld x0 rX)⟩]
/-- Its one store covers the buffer. -/
theorem cover0_2 (p0 : Vec F S256x3840 .fp8e4m3) (y : S256x3840.Idx) :
    ∃ pc ∈ ([⟨rX, p0⟩] : List (View.Piece (Elt F) S256x3840 .fp8e4m3)), y ∈ pc.1.set :=
  View.cover_of_tiled [⟨rX, p0⟩] S256x3840.size (by rfl) y

/-- Output window 3 (the scales) after the body, from the input block. -/
def out0_3 (x0 : Vec F S256x3840 .bf16) : Vec F S256x1 .f32 := View.canon [⟨rC, k0_pay4 (View.ld x0 rX)⟩]
/-- Its one store covers the buffer. -/
theorem cover0_3 (p0 : Vec F S256x1 .f32) (y : S256x1.Idx) :
    ∃ pc ∈ ([⟨rC, p0⟩] : List (View.Piece (Elt F) S256x1 .f32)), y ∈ pc.1.set :=
  View.cover_of_tiled [⟨rC, p0⟩] S256x1.size (by rfl) y

/-- Output window 4 (the row minima) after the body, from the input block. -/
def out0_4 (x0 : Vec F S256x3840 .bf16) : Vec F S256x1 .f32 := View.canon [⟨rC, k0_pay3 (View.ld x0 rX)⟩]
/-- Its one store covers the buffer. -/
theorem cover0_4 (p0 : Vec F S256x1 .f32) (y : S256x1.Idx) :
    ∃ pc ∈ ([⟨rC, p0⟩] : List (View.Piece (Elt F) S256x1 .f32)), y ∈ pc.1.set :=
  View.cover_of_tiled [⟨rC, p0⟩] S256x1.size (by rfl) y

/-- Output window 5 (the shifts) after the body, from the input block. -/
def out0_5 (x0 : Vec F S256x3840 .bf16) : Vec F S256x1 .f32 := View.canon [⟨rC, k0_pay1 (k0_pay3 (View.ld x0 rX)) (k0_pay4 (View.ld x0 rX)) (k0_pay7 (View.ld x0 rX))⟩]
/-- Its one store covers the buffer. -/
theorem cover0_5 (p0 : Vec F S256x1 .f32) (y : S256x1.Idx) :
    ∃ pc ∈ ([⟨rC, p0⟩] : List (View.Piece (Elt F) S256x1 .f32)), y ∈ pc.1.set :=
  View.cover_of_tiled [⟨rC, p0⟩] S256x1.size (by rfl) y

/-! ## The body's triple -/

set_option maxHeartbeats 1000000 in
/-- The kernel body on whole staging memrefs, the input's at `x0` and the outputs' at anything, runs to the continuation
    holding the input's as it was and each output's at `out0_W x0`. -/
theorem sound_kernel0 (c : Dev nD) (E : Set ℕ) (i : grid0.Coords) (arg1 : Memref sig .tc .vmem S256x3840 .bf16) (harg1 : arg1.IsWhole) (arg2 : Memref sig .tc .vmem S256x3840 .i8) (harg2 : arg2.IsWhole) (arg3 : Memref sig .tc .vmem S256x3840 .fp8e4m3) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole)
    (x0 : Vec F S256x3840 .bf16) (K : PUnit → sProp 𝕄) :
    iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare (out0_1 x0) ∗ owns (c : Thread nD τ) arg3 fullShare (out0_2 x0) ∗ owns (c : Thread nD τ) arg4 fullShare (out0_3 x0) ∗ owns (c : Thread nD τ) arg5 fullShare (out0_4 x0) ∗ owns (c : Thread nD τ) arg6 fullShare (out0_5 x0)) -∗ K ⟨⟩))
      ⊢ wp frame (wpE (defs₀ (F := F)) Variants.none c none) E (cc0_quantise i arg1 harg1 arg2 harg2 arg3 harg3 arg4 harg4 arg5 harg5 arg6 harg6) K := by
  simp only [cc0_quantise_eq_skeleton]; unfold cc0_quantise_skel
  simp only [k0_part1_eq_skeleton]
  unfold owns
  iintro ⟨⟨%f0, %hf0, H0⟩, ⟨%d1, %f1, -, H1⟩, ⟨%d2, %f2, -, H2⟩, ⟨%d3, %f3, -, H3⟩, ⟨%d4, %f4, -, H4⟩, ⟨%d5, %f5, -, H5⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  isplitl [H2]
  · iexists _; isplitr
    swap; · iexact H2
    ipureintro
    exact View.read_writes_eq_canon _ _ _ (cover0_2 _)
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! ## The pipeline's proof data -/

/-- The proof data of the quantiser's pipeline on core `c`: the arrays as the region finds them (`V`); after the body
    at point `t` the input's buffer at its block and each output's at `out0_W` of the block; nothing owed; full shares. -/
def dat0 (c : Dev nD) : Dat τ (Elt F) Unit ℕ (UR sig nD τ) ℕ cfg0 c where
  A w := V c (Pipeline.arrRef spec0 w)
  after w t := match w with
    | ⟨0, _⟩ => X0_0 V c t
    | ⟨1, _⟩ => out0_1 (X0_0 V c t)
    | ⟨2, _⟩ => out0_2 (X0_0 V c t)
    | ⟨3, _⟩ => out0_3 (X0_0 V c t)
    | ⟨4, _⟩ => out0_4 (X0_0 V c t)
    | ⟨5, _⟩ => out0_5 (X0_0 V c t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = X0_0 V c t := by dsimp only [dat0]
theorem after0_1 (c : Dev nD) (t : Fin cfg0.N) : (dat0 V c).after 1 t = out0_1 (X0_0 V c t) := by dsimp only [dat0]
theorem after0_2 (c : Dev nD) (t : Fin cfg0.N) : (dat0 V c).after 2 t = out0_2 (X0_0 V c t) := by dsimp only [dat0]
theorem after0_3 (c : Dev nD) (t : Fin cfg0.N) : (dat0 V c).after 3 t = out0_3 (X0_0 V c t) := by dsimp only [dat0]
theorem after0_4 (c : Dev nD) (t : Fin cfg0.N) : (dat0 V c).after 4 t = out0_4 (X0_0 V c t) := by dsimp only [dat0]
theorem after0_5 (c : Dev nD) (t : Fin cfg0.N) : (dat0 V c).after 5 t = out0_5 (X0_0 V c t) := by dsimp only [dat0]

/-- The input's current staging buffer holds its block at every point. -/
theorem before0_0 (c : Dev nD) (t : Fin cfg0.N) (d) : (dat0 V c).before 0 t d = X0_0 V c t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (X0_0 V c t) _)
  isplitl [H0]; · iexact H0
  isplitl [H1]; · iexists _; iexact H1
  isplitl [H2]; · iexists _; iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The body obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.Kernel.Hand

end
-- ==== Proof.KernelRun.Region1.lean ====
/- The product call (region 1): what its body leaves in the output block and in the two buffers it carries from
   point to point, the pipeline's proof data over any contents `V` the region is entered with, and the body obligation. -/
module

public import proofs.«01_k».proof.Proof.Gen.Kernel.Skeleton
public import proofs.«01_k».proof.Proof.Gen.Kernel.Launch
public import proofs.«01_k».proof.Proof.Gen.Kernel.Points
public import Idealize.ShloMosaic.Lib.Pipeline.FrameBody
public import Idealize.ShloMosaic.Lib.Pipeline.Frame
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's staging buffer holds its block at every point, fetched there or not, for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: the whole of each buffer -/

/-- The whole of a 1024×3840 buffer. -/
abbrev rQ : Rect S1024x3840 := Rect.unit (s := S1024x3840) ![0, 0] S1024x3840.size inb_S1024x3840_S1024x3840_0_0
/-- The whole of a 1024×256 buffer. -/
abbrev rU : Rect S1024x256 := Rect.unit (s := S1024x256) ![0, 0] S1024x256.size inb_S1024x256_S1024x256_0_0
/-- The whole of a 1920×1024 buffer. -/
abbrev rP : Rect S1920x1024 := Rect.unit (s := S1920x1024) ![0, 0] S1920x1024.size inb_S1920x1024_S1920x1024_0_0
/-- The whole of a 1×1024 buffer. -/
abbrev rN : Rect S1x1024 := Rect.unit (s := S1x1024) ![0, 0] S1x1024.size inb_S1x1024_S1x1024_0_0
/-- The whole of a 256×1024 buffer. -/
abbrev rO : Rect S256x1024 := Rect.unit (s := S256x1024) ![0, 0] S256x1024.size inb_S256x1024_S256x1024_0_0
/-- The whole of a 1024×1 buffer. -/
abbrev rS : Rect S1024x1 := Rect.unit (s := S1024x1) ![0, 0] S1024x1.size inb_S1024x1_S1024x1_0_0
/-- The whole of a 1024×1024 buffer. -/
abbrev rY : Rect S1024x1024 := Rect.unit (s := S1024x1024) ![0, 0] S1024x1024.size inb_S1024x1024_S1024x1024_0_0
/-- The whole of a 3840×1024 buffer. -/
abbrev rW : Rect S3840x1024 := Rect.unit (s := S3840x1024) ![0, 0] S3840x1024.size inb_S3840x1024_S3840x1024_0_0

/-! ## What the body leaves -/

/-- The unpacked weights a first point of a column tile leaves in the carried weight buffer, from the packed block. -/
def sc0 (x2 : Vec F S1920x1024 .i8) : Vec F S3840x1024 .fp8e4m3 := View.canon [⟨rW, k1_pay2 (View.ld x2 rP)⟩]
/-- The column sums it leaves in the carried row. -/
def sc1 (x2 : Vec F S1920x1024 .i8) : Vec F S1x1024 .f32 := View.canon [⟨rN, k1_pay3 (View.ld x2 rP)⟩]
/-- The output block the body leaves, from the input blocks and the carried weights `y0` and column sums `y1`. -/
def out1_7 (y0 : Vec F S3840x1024 .fp8e4m3) (y1 : Vec F S1x1024 .f32) (x0 : Vec F S1024x3840 .fp8e4m3) (x1 : Vec F S1024x256 .bf16) (x3 : Vec F S1x1024 .f32) (x4 : Vec F S256x1024 .bf16) (x5 : Vec F S1024x1 .f32) (x6 : Vec F S1024x1 .f32) : Vec F S1024x1024 .bf16 :=
  View.canon [⟨rY, k1_pay4 (View.ld x0 rQ) (View.ld y0 rW) (View.ld x1 rU) (View.ld x4 rO) (View.ld x3 rN) (View.ld x5 rS) (View.ld x6 rS) (View.ld y1 rN)⟩]

/-- One store covers the buffer. -/
theorem coverY (p0 : Vec F S1024x1024 .bf16) (y : S1024x1024.Idx) :
    ∃ pc ∈ ([⟨rY, p0⟩] : List (View.Piece (Elt F) S1024x1024 .bf16)), y ∈ pc.1.set :=
  View.cover_of_tiled [⟨rY, p0⟩] S1024x1024.size (by rfl) y
/-- One store covers the buffer. -/
theorem coverW (p0 : Vec F S3840x1024 .fp8e4m3) (y : S3840x1024.Idx) :
    ∃ pc ∈ ([⟨rW, p0⟩] : List (View.Piece (Elt F) S3840x1024 .fp8e4m3)), y ∈ pc.1.set :=
  View.cover_of_tiled [⟨rW, p0⟩] S3840x1024.size (by rfl) y
/-- One store covers the buffer. -/
theorem coverN (p0 : Vec F S1x1024 .f32) (y : S1x1024.Idx) :
    ∃ pc ∈ ([⟨rN, p0⟩] : List (View.Piece (Elt F) S1x1024 .f32)), y ∈ pc.1.set :=
  View.cover_of_tiled [⟨rN, p0⟩] S1x1024.size (by rfl) y

/-! ## The body's branch -/

/-- The branch's condition at a grid coordinate: the row tile is the first. -/
abbrev cond1 (i : grid1.Coords) : Prop := (Scalar.cmpi .ne (Scalar.extui (Scalar.cmpi .eq (BitVec.ofNat 32 (i 1).val) 0#32)) 0#32) = 1#1
/-- It holds at the points divisible by 16. -/
theorem hcond1 : ∀ t : Fin cfg1.N, cond1 (grid1.coords t) ↔ t.val % 16 = 0 :=
  (fun t => by
    have ht : t.val < 224 := Nat.lt_of_lt_of_eq t.isLt N_1
    have e0 : (grid1.coords t 0).val = t.val / 16 % 14 := Pipeline.Grid.coords_val t 0 (by decide) rfl
    have e1 : (grid1.coords t 1).val = t.val / 1 % 16 := Pipeline.Grid.coords_val t 1 (by decide) rfl
    simp only [cond1, e0, e1]
    word_cmp
   : ∀ t : Fin grid1.N, cond1 (grid1.coords t) ↔ t.val % 16 = 0)

set_option maxHeartbeats 4000000 in
/-- At a first row tile the body fills the carried buffers from the packed block and uses them. -/
theorem sound_kernel1_A (c : Dev nD) (E : Set ℕ) (i : grid1.Coords) (arg2 : Memref sig .tc .vmem S1024x3840 .fp8e4m3) (harg2 : arg2.IsWhole) (arg3 : Memref sig .tc .vmem S1024x256 .bf16) (harg3 : arg3.IsWhole) (arg4 : Memref sig .tc .vmem S1920x1024 .i8) (harg4 : arg4.IsWhole) (arg5 : Memref sig .tc .vmem S1x1024 .f32) (harg5 : arg5.IsWhole) (arg6 : Memref sig .tc .vmem S256x1024 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (arg10 : Memref sig .tc .vmem S3840x1024 .fp8e4m3) (harg10 : arg10.IsWhole) (arg11 : Memref sig .tc .vmem S1x1024 .f32) (harg11 : arg11.IsWhole) (hc : cond1 i)
    (x0 : Vec F S1024x3840 .fp8e4m3) (x1 : Vec F S1024x256 .bf16) (x2 : Vec F S1920x1024 .i8) (x3 : Vec F S1x1024 .f32) (x4 : Vec F S256x1024 .bf16) (x5 : Vec F S1024x1 .f32) (x6 : Vec F S1024x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out1_7 (sc0 x2) (sc1 x2) x0 x1 x3 x4 x5 x6) ∗ owns (c : Thread nD τ) arg10 fullShare (sc0 x2) ∗ owns (c : Thread nD τ) arg11 fullShare (sc1 x2)) -∗ K ⟨⟩))
      ⊢ wp frame (wpE (defs₀ (F := F)) Variants.none c none) E (cc1_matmul i arg2 harg2 arg3 harg3 arg4 harg4 arg5 harg5 arg6 harg6 arg7 harg7 arg8 harg8 arg9 harg9 arg10 harg10 arg11 harg11) K := by
  simp only [cc1_matmul_eq_skeleton]; unfold cc1_matmul_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
  subst hf0 hf1 hf2 hf3 hf4 hf5 hf6
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (coverY _)).trans ?_
    unfold out1_7 sc0 sc1 sound_kernel1_A.sl.v5 sound_kernel1_A.sl.v21 sound_kernel1_A.sl.HS0_1 sound_kernel1_A.sl.HS1_1
    rw [View.readCov_eq_canon_ld _ _ _ (coverW _), View.readCov_eq_canon_ld _ _ _ (coverN _)]
    rfl
  isplitl [HS0]
  · iexists _; isplitr
    swap; · iexact HS0
    ipureintro
    exact View.read_writes_eq_canon _ _ _ (coverW _)
  iexists _; isplitr
  swap; · iexact HS1
  ipureintro
  exact View.read_writes_eq_canon _ _ _ (coverN _)

set_option maxHeartbeats 4000000 in
/-- At any other row tile the body reads the carried buffers and leaves them. -/
theorem sound_kernel1_B (c : Dev nD) (E : Set ℕ) (i : grid1.Coords) (arg2 : Memref sig .tc .vmem S1024x3840 .fp8e4m3) (harg2 : arg2.IsWhole) (arg3 : Memref sig .tc .vmem S1024x256 .bf16) (harg3 : arg3.IsWhole) (arg4 : Memref sig .tc .vmem S1920x1024 .i8) (harg4 : arg4.IsWhole) (arg5 : Memref sig .tc .vmem S1x1024 .f32) (harg5 : arg5.IsWhole) (arg6 : Memref sig .tc .vmem S256x1024 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (arg10 : Memref sig .tc .vmem S3840x1024 .fp8e4m3) (harg10 : arg10.IsWhole) (arg11 : Memref sig .tc .vmem S1x1024 .f32) (harg11 : arg11.IsWhole) (hc : ¬cond1 i)
    (x0 : Vec F S1024x3840 .fp8e4m3) (x1 : Vec F S1024x256 .bf16) (x2 : Vec F S1920x1024 .i8) (x3 : Vec F S1x1024 .f32) (x4 : Vec F S256x1024 .bf16) (x5 : Vec F S1024x1 .f32) (x6 : Vec F S1024x1 .f32) (y0 : Vec F S3840x1024 .fp8e4m3) (y1 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare y0 ∗ owns (c : Thread nD τ) arg11 fullShare y1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out1_7 y0 y1 x0 x1 x3 x4 x5 x6) ∗ owns (c : Thread nD τ) arg10 fullShare y0 ∗ owns (c : Thread nD τ) arg11 fullShare y1) -∗ K ⟨⟩))
      ⊢ wp frame (wpE (defs₀ (F := F)) Variants.none c none) E (cc1_matmul i arg2 harg2 arg3 harg3 arg4 harg4 arg5 harg5 arg6 harg6 arg7 harg7 arg8 harg8 arg9 harg9 arg10 harg10 arg11 harg11) K := by
  simp only [cc1_matmul_eq_skeleton]; unfold cc1_matmul_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
  subst hf0 hf1 hf2 hf3 hf4 hf5 hf6 hfs0 hfs1
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (coverY _)
  isplitl [HS0]
  · iexists fs0; isplitr; · ipureintro; rfl
    iexact HS0
  iexists fs1; isplitr; · ipureintro; rfl
  iexact HS1

/-! ## The carried buffers -/

/-- The first carried buffer, the unpacked weights. -/
abbrev scM0 : Memref sig .tc .vmem S3840x1024 .fp8e4m3 := Memref.whole cc1_scratch0
/-- The second, the column sums. -/
abbrev scM1 : Memref sig .tc .vmem S1x1024 .f32 := Memref.whole cc1_scratch1

/-- An assertion beside the quantise call's staging buffers, each whole at anything: this call never touches them. -/
def withOther (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ P)

/-- The region's scoped rest is the two carried buffers at anything, beside the other call's. -/
theorem PhiA1_eq (c : Dev nD) :
    (Pipeline.ΦA spec1 c : sProp 𝕄)
      = iprop(withOther c iprop((∃ d, owns (c : Thread nD τ) scM0 fullShare d) ∗ (∃ d, owns (c : Thread nD τ) scM1 fullShare d)) ∗ (∃ r, prngReg c r)) := by
  unfold Pipeline.ΦA withOther; rw [scopedRest1_eq]; simp only [scM0, scM1, owns_whole]; try rfl

/-- The packed weight block depends on the column tile alone: it does not change between points of one tile. -/
theorem iblk1_2_step (c : Dev nD) (t : Fin cfg1.N) (h : ¬t.val % 16 = 0) :
    iblk1 V c 2 ⟨t.val - 1, Nat.lt_of_le_of_lt (Nat.sub_le _ _) t.isLt⟩ = iblk1 V c 2 t := by
  have hf : (cfg1.win 2).fetch t = false := by
    rw [← Bool.not_eq_true, fetch1_2 t]; exact h
  have hi := (Pipeline.Window.index_eq_of_fetch (cfg1.win 2) rfl t hf).2
  have hblk : ∀ t t' : Fin cfg1.N, (cfg1.win 2).index t = (cfg1.win 2).index t' → iblk1 V c 2 t = iblk1 V c 2 t' := by
    intro t t' hh
    unfold iblk1; funext j
    rw [View.read_apply, View.read_apply]
    show _root_.cast _ (V c (Pipeline.arrRef spec1 2) ((cfg1.win 2).arr.view.emb (((cfg1.win 2).rect t).emb _)))
      = _root_.cast _ (V c (Pipeline.arrRef spec1 2) ((cfg1.win 2).arr.view.emb (((cfg1.win 2).rect t').emb _)))
    congr 3
    funext a; apply Fin.ext
    rw [Rect.emb_apply, Rect.emb_apply]
    show (cfg1.win 2).kind.off ((cfg1.win 2).index t a) ((cfg1.win 2).size a) + 1 * (j a).val
      = (cfg1.win 2).kind.off ((cfg1.win 2).index t' a) ((cfg1.win 2).size a) + 1 * (j a).val
    rw [hh]
  exact (hblk _ _ hi).symm

/-- What holds before point `n`: nothing known of the carried buffers at the first, afterwards the weights and column
    sums of the column tile the point before was in. -/
def PhiS (c : Dev nD) : (n : ℕ) → n ≤ cfg1.N → sProp 𝕄
  | 0, _ => Pipeline.ΦA spec1 c
  | n + 1, hn => iprop(withOther c iprop(owns (c : Thread nD τ) scM0 fullShare (sc0 (iblk1 V c 2 ⟨n, hn⟩)) ∗ owns (c : Thread nD τ) scM1 fullShare (sc1 (iblk1 V c 2 ⟨n, hn⟩))) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (t : Fin cfg1.N) :
    PhiS V c (t.val + 1) t.isLt = iprop(withOther c iprop(owns (c : Thread nD τ) scM0 fullShare (sc0 (iblk1 V c 2 t)) ∗ owns (c : Thread nD τ) scM1 fullShare (sc1 (iblk1 V c 2 t))) ∗ (∃ r, prngReg c r)) := rfl
theorem PhiS_pos (c : Dev nD) (n : ℕ) (h : n ≤ cfg1.N) (hz : n ≠ 0) :
    PhiS V c n h = iprop(withOther c iprop(owns (c : Thread nD τ) scM0 fullShare (sc0 (iblk1 V c 2 ⟨n - 1, by omega⟩)) ∗ owns (c : Thread nD τ) scM1 fullShare (sc1 (iblk1 V c 2 ⟨n - 1, by omega⟩))) ∗ (∃ r, prngReg c r)) := by
  cases n with
  | zero => exact absurd rfl hz
  | succ n => rfl

/-! ## The pipeline's proof data -/

/-- The proof data of the product's pipeline on core `c`: the arrays as the region finds them (`V`); after the body at
    point `t` each input's buffer at its block and the output's at `out1_7` of the blocks and of the carried buffers of
    the point's column tile. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (sc0 (iblk1 V c 2 t)) (sc1 (iblk1 V c 2 t)) (iblk1 V c 0 t) (iblk1 V c 1 t) (iblk1 V c 3 t) (iblk1 V c 4 t) (iblk1 V c 5 t) (iblk1 V c 6 t)
  Φ t := PhiS V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's number. -/
theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

/-! What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (sc0 (iblk1 V c 2 t)) (sc1 (iblk1 V c 2 t)) (iblk1 V c 0 t) (iblk1 V c 1 t) (iblk1 V c 3 t) (iblk1 V c 4 t) (iblk1 V c 5 t) (iblk1 V c 6 t) := by dsimp only [dat1]

/-! Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 6400000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl,
    after1_0, after1_1, after1_2, after1_3, after1_4, after1_5, after1_6, after1_7]
  rw [show (dat1 V c).Φ t.succ = PhiS V c (t.val + 1) t.isLt from rfl, PhiS_succ]
  by_cases h0 : t.val % 16 = 0
  · by_cases hz : t.val = 0
    · rw [PhiS_castSucc V c t, PhiS_zero V c _ _ hz, PhiA1_eq]; unfold withOther
      iintro ⟨⟨⟨HR0, HR1, HR2, HR3, HR4, HR5, HR6, HR7, HR8, HR9, HR10, HR11, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel1_A c Set.univ (grid1.coords t) _ _ _ _ _ _ _ _ _ _ _ _ _ _ _ _ _ _ _ _ ((hcond1 t).mpr h0) (iblk1 V c 0 t) (iblk1 V c 1 t) (iblk1 V c 2 t) (iblk1 V c 3 t) (iblk1 V c 4 t) (iblk1 V c 5 t) (iblk1 V c 6 t) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hg HR0 HR1 HR2 HR3 HR4 HR5 HR6 HR7 HR8 HR9 HR10 HR11]
      · isplitl [HS0 HS1 HR0 HR1 HR2 HR3 HR4 HR5 HR6 HR7 HR8 HR9 HR10 HR11]

        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [PhiS_castSucc V c t, PhiS_pos V c _ _ hz]; unfold withOther
      iintro ⟨⟨⟨HR0, HR1, HR2, HR3, HR4, HR5, HR6, HR7, HR8, HR9, HR10, HR11, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel1_A c Set.univ (grid1.coords t) _ _ _ _ _ _ _ _ _ _ _ _ _ _ _ _ _ _ _ _ ((hcond1 t).mpr h0) (iblk1 V c 0 t) (iblk1 V c 1 t) (iblk1 V c 2 t) (iblk1 V c 3 t) (iblk1 V c 4 t) (iblk1 V c 5 t) (iblk1 V c 6 t) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexists _; iexact HS0
      isplitl [HS1]; · iexists _; iexact HS1
      iintro ⟨H0, H1, H2, H3, H4, H5, H6, H7, HS0, HS1⟩
      isplitl [HS0 HS1 Hg HR0 HR1 HR2 HR3 HR4 HR5 HR6 HR7 HR8 HR9 HR10 HR11]
      · isplitl [HS0 HS1 HR0 HR1 HR2 HR3 HR4 HR5 HR6 HR7 HR8 HR9 HR10 HR11]

        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · have hz : t.val ≠ 0 := fun hz => h0 (by rw [hz])
    rw [PhiS_castSucc V c t, PhiS_pos V c _ _ hz, iblk1_2_step V c t h0]; unfold withOther
    iintro ⟨⟨⟨HR0, HR1, HR2, HR3, HR4, HR5, HR6, HR7, HR8, HR9, HR10, HR11, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel1_B c Set.univ (grid1.coords t) _ _ _ _ _ _ _ _ _ _ _ _ _ _ _ _ _ _ _ _ (fun h => h0 ((hcond1 t).mp h)) (iblk1 V c 0 t) (iblk1 V c 1 t) (iblk1 V c 2 t) (iblk1 V c 3 t) (iblk1 V c 4 t) (iblk1 V c 5 t) (iblk1 V c 6 t) (sc0 (iblk1 V c 2 t)) (sc1 (iblk1 V c 2 t)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hg HR0 HR1 HR2 HR3 HR4 HR5 HR6 HR7 HR8 HR9 HR10 HR11]
    · isplitl [HS0 HS1 HR0 HR1 HR2 HR3 HR4 HR5 HR6 HR7 HR8 HR9 HR10 HR11]

      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        isplitl [HR11]; · iexact HR11
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After the last point the invariant gives it back: the carried buffers' contents are forgotten. -/
theorem hout1 (c : Dev nD) : (dat1 V c).Φ (Fin.last cfg1.N) ⊢ Pipeline.ΦA spec1 c := by
  have hN : (Fin.last cfg1.N).val ≠ 0 := by rw [Fin.val_last]; have : cfg1.N = 224 := N_1; omega
  rw [show (dat1 V c).Φ (Fin.last cfg1.N) = PhiS V c (Fin.last cfg1.N).val (Nat.le_of_lt_succ (Fin.last cfg1.N).isLt) from rfl, PhiS_pos V c _ _ hN, PhiA1_eq]; unfold withOther
  iintro ⟨⟨HR0, HR1, HR2, HR3, HR4, HR5, HR6, HR7, HR8, HR9, HR10, HR11, HS0, HS1⟩, Hg⟩
  isplitl [HS0 HS1 HR0 HR1 HR2 HR3 HR4 HR5 HR6 HR7 HR8 HR9 HR10 HR11]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HS0]
    · iexists _; iexact HS0
    iexists _; iexact HS1
  iexact Hg

end Cert.Kernel.Hand

end
-- ==== Proof.KernelRun.Run.lean ====
/- The run of @main: the contents of every buffer that outlives a call, followed through the host steps and the two
   calls, and the theorem that every execution terminates with those buffers at the last of these contents. -/
module

public import proofs.«01_k».proof.Proof.Gen.Kernel.Skeleton
public import proofs.«01_k».proof.Proof.Gen.Kernel.Launch
public import proofs.«01_k».proof.Proof.Gen.Kernel.Points
public import Idealize.ShloMosaic.Lib.Pipeline.FrameBody
public import Idealize.ShloMosaic.Lib.Pipeline.Frame
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.KernelRun.Region0
public import proofs.«01_k».proof.Proof.KernelRun.Region1
public import proofs.«01_k».proof.Proof.Gen.Kernel.Regions
public import Idealize.ShloMosaic.Lib.Pipeline.Regions

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- @main's argument arrays. -/
abbrev argRefs : List (Ref sig .tc) := [main_arg0, main_arg1, main_arg2, main_arg3]

/-! ## The buffer contents at each boundary -/

/-- Core `c`'s buffers at launch. -/
abbrev W0 : Dev nD → Valuation τ sig (Elt F) := fun c b => m (c, b)

/-- After the host steps `hostOps0`. -/
abbrev W1 : Dev nD → Valuation τ sig (Elt F) := fun c => StableHlo.after hostOps0 (W0 m c)
/-- A reference `hostOps0` does not write keeps its contents across it. -/
theorem W1_of (c : Dev nD) (r : Ref sig .tc) (h : r ∉ hostOps0_W) : W1 m c (Proc.devRef .tc r) = W0 m c (Proc.devRef .tc r) :=
  StableHlo.after_of_writes_sub hostOps0 _ hostOps0_writes h
/-- The same read at the TensorCore's references. -/
abbrev V1 : (c : Dev nD) → (b : Ref sig .tc) → Buf (Elt F) ((c : Thread nD τ).loc b) := fun c b => W1 m c b

/-- At call 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- A reference that is none of the call's output arrays keeps its contents across it. -/
theorem W2_of (c : Dev nD) (r : Ref sig .tc) (h : ∀ w : Fin cfg0.W, Pipeline.arrRef spec0 w = r → (cfg0.win w).isOut = false) :
    W2 m c (Proc.devRef .tc r) = W1 m c (Proc.devRef .tc r) := by
  by_cases hw : ∃ w : Fin cfg0.W, Pipeline.arrRef spec0 w = r
  · obtain ⟨w, rfl⟩ := hw
    exact (W2_arr m c w).trans (((dat0 (V1 m) c).arrAt_in w (h w rfl) _).trans (A_eq0 (V1 m) c w))
  · exact W2_of_ne m c r fun w e => hw ⟨w, e⟩
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- Every argument among the call's arrays is an input's. -/
theorem argsIn0 : ∀ a ∈ argRefs, ∀ w : Fin cfg0.W, Pipeline.arrRef spec0 w = a → (cfg0.win w).isOut = false :=
  ListAll.forall_mem_of_all_decide (by decide +kernel)

/-- After the host steps `hostOps1`. -/
abbrev W3 : Dev nD → Valuation τ sig (Elt F) := fun c => StableHlo.after hostOps1 (W2 m c)
/-- A reference `hostOps1` does not write keeps its contents across it. -/
theorem W3_of (c : Dev nD) (r : Ref sig .tc) (h : r ∉ hostOps1_W) : W3 m c (Proc.devRef .tc r) = W2 m c (Proc.devRef .tc r) :=
  StableHlo.after_of_writes_sub hostOps1 _ hostOps1_writes h
/-- The same read at the TensorCore's references. -/
abbrev V3 : (c : Dev nD) → (b : Ref sig .tc) → Buf (Elt F) ((c : Thread nD τ).loc b) := fun c b => W3 m c b

/-- At call 1's exit: its arrays at what the pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- A reference that is none of the call's output arrays keeps its contents across it. -/
theorem W4_of (c : Dev nD) (r : Ref sig .tc) (h : ∀ w : Fin cfg1.W, Pipeline.arrRef spec1 w = r → (cfg1.win w).isOut = false) :
    W4 m c (Proc.devRef .tc r) = W3 m c (Proc.devRef .tc r) := by
  by_cases hw : ∃ w : Fin cfg1.W, Pipeline.arrRef spec1 w = r
  · obtain ⟨w, rfl⟩ := hw
    exact (W4_arr m c w).trans (((dat1 (V3 m) c).arrAt_in w (h w rfl) _).trans (A_eq1 (V3 m) c w))
  · exact W4_of_ne m c r fun w e => hw ⟨w, e⟩
/-- The same read at the TensorCore's references. -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- Every argument among the call's arrays is an input's. -/
theorem argsIn1 : ∀ a ∈ argRefs, ∀ w : Fin cfg1.W, Pipeline.arrRef spec1 w = a → (cfg1.win w).isOut = false :=
  ListAll.forall_mem_of_all_decide (by decide +kernel)

/-- After the host steps `hostOps2`. -/
abbrev W5 : Dev nD → Valuation τ sig (Elt F) := fun c => StableHlo.after hostOps2 (W4 m c)
/-- A reference `hostOps2` does not write keeps its contents across it. -/
theorem W5_of (c : Dev nD) (r : Ref sig .tc) (h : r ∉ hostOps2_W) : W5 m c (Proc.devRef .tc r) = W4 m c (Proc.devRef .tc r) :=
  StableHlo.after_of_writes_sub hostOps2 _ hostOps2_writes h
/-- The same read at the TensorCore's references. -/
abbrev V5 : (c : Dev nD) → (b : Ref sig .tc) → Buf (Elt F) ((c : Thread nD τ).loc b) := fun c b => W5 m c b

/-- Every argument ends as launched. -/
theorem W5_args (c : Dev nD) : ∀ a ∈ argRefs, W5 m c (Proc.devRef .tc a) = m ((c : Thread nD τ).loc a) := fun a ha =>
  (W5_of m c a ((ListAll.forall_mem_of_all_decide (by decide +kernel) : ∀ a ∈ argRefs, a ∉ hostOps2_W) a ha)).trans <|
  (W4_of m c a (argsIn1 a ha)).trans <|
  (W3_of m c a ((ListAll.forall_mem_of_all_decide (by decide +kernel) : ∀ a ∈ argRefs, a ∉ hostOps1_W) a ha)).trans <|
  (W2_of m c a (argsIn0 a ha)).trans <|
  (W1_of m c a ((ListAll.forall_mem_of_all_decide (by decide +kernel) : ∀ a ∈ argRefs, a ∉ hostOps0_W) a ha))

/-! ## The proof data family and the thread state -/

/-- The prefetched tables' admissible contents: no call has a table. -/
abbrev adm : (p : Fin 2) → (pcfgs (F := F) p).Adm := fun p => (cfgs p).toPCfg_adm
/-- Every call's proof data, each at its entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a call takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    and put back at the exit contents; the generator register goes in and comes out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) (A_eq0 (V1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    and put back at the exit contents; the generator register goes in and comes out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) (A_eq1 (V3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m) c); unfold Pipeline.ΦA
    iintro ⟨Hp, -, Hr⟩
    isplitl [Hr]; · iexact Hr
    iexact Hp
  hout c := by
    rw [Pipeline.ownSems0_none]
    refine BIBase.Entails.trans (hout1 (V3 m) c) ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
/-- @main IS the run of the segments: `Gen.main_chain`, then the segments' run against that chain by the kernel's
    definitional check. -/
theorem main_run (c : Dev nD) : main (F := F) c = Pipeline.Seg.run (segs m) := (main_chain c).trans (by chain_rfl)

/-- The TensorCore has no unscoped semaphore. -/
theorem no_unscoped : ∀ sm : SemLoc sig, sm.isScoped .tc = true := by decide

-- the launch theorem's implicit arguments are found by unifying its conclusion with this one, which takes unfolding
-- plain definitions in a metavariable's type
set_option backward.isDefEq.respectTransparency.types false in
/-- The run: from any memory with zero counters every execution of @main on the TensorCores terminates, nothing
    faulting, and every final state has every buffer that outlives the calls at the last contents `W5` and every
    semaphore counter at zero. -/
theorem run (ρ : Dev nD → PrngReg) : θ_run defs (onTc (τ := τ) (main (F := F))) ⟨m, fun _ => 0, ρ⟩ (fun r =>
      (∀ c : Dev nD, ∀ b ∈ Pipeline.ucRefs τ sig, r.2.mem (((c : Thread nD τ)).1, b) = W5 m c b)
      ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h hz => ⟨h, funext fun g => hz g (.inr (no_unscoped g.2))⟩)

/-- The arguments end unchanged and every counter at zero. -/
theorem frame (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨(h.1 c _ (mem_uc main_arg0 (by decide))).trans (W5_args m c main_arg0 (by decide)),
     (h.1 c _ (mem_uc main_arg1 (by decide))).trans (W5_args m c main_arg1 (by decide)),
     (h.1 c _ (mem_uc main_arg2 (by decide))).trans (W5_args m c main_arg2 (by decide)),
     (h.1 c _ (mem_uc main_arg3 (by decide))).trans (W5_args m c main_arg3 (by decide))⟩, h.2⟩) (run m ρ)

end Cert.Kernel.Hand

end
-- ==== Proof.IdealRun.Region0.lean ====
/- The quantiser call (region 0): what its body leaves in each output block, the pipeline's proof data over any
   contents `V` the region is entered with, and the body obligation at every grid point. -/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Frame
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's block width does not divide its array's, but no block the grid reaches is cut, so a fetch fills the
    whole staging buffer: a default for the part left unfilled, which nothing reads. -/
def dflt0_0 : (cfg0.win 0).block.Idx → Elt F (cfg0.win 0).elt := fun _ => Classical.choice inferInstance
/-- The input's block at point `t`, as the whole staging buffer holds it. -/
def X0_0 (c : Dev nD) (t : Fin cfg0.N) : (cfg0.win 0).block.Idx → Elt F (cfg0.win 0).elt :=
  (cfg0.win 0).fill (cfg0.grid.coords t) dflt0_0 (iblk0 V c 0 t)
/-- No block the grid reaches is cut. -/
theorem xsize0_0 : ∀ t : Fin cfg0.N, ∀ a, (cfg0.win 0).xsize (cfg0.grid.coords t) a = (cfg0.win 0).size a := by decide +kernel
/-- So every index of the staging buffer is one a fetch fills. -/
theorem moved0_0 (t : Fin cfg0.N) (j : (cfg0.win 0).block.Idx) : (cfg0.win 0).moved (cfg0.grid.coords t) j = true :=
  ((cfg0.win 0).moved_iff _ j).mpr fun a => by rw [xsize0_0 t a]; exact (j a).isLt
/-- … and what it held before does not matter. -/
theorem fill0_0 (t : Fin cfg0.N) (d d' : (cfg0.win 0).block.Idx → Elt F (cfg0.win 0).elt) (g) :
    (cfg0.win 0).fill (cfg0.grid.coords t) d g = (cfg0.win 0).fill (cfg0.grid.coords t) d' g := by
  funext j; unfold Pipeline.Window.fill; rw [dif_pos (moved0_0 t j), dif_pos (moved0_0 t j)]
/-- The input's staging buffer holds its block at every point, for any proof data whose array is `V`'s and whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = X0_0 V c t) (t : Fin cfg0.N) (d) : dat.before 0 t d = X0_0 V c t :=
  (dat.before_in_eq_fetched 0 rfl (fun _ => rfl)
      (fun t t' h => funext fun a => congrArg (fun n => Pipeline.Clip.of n ((cfg0.win 0).size a) (S16384x4096.size a)) (congrFun h a))
      (fun t => by rw [hafter]; unfold X0_0; rw [Pipeline.Window.cut_fill]; unfold Dat.blockOf iblk0; rw [hA]; try rfl) t d).trans
    (by unfold Dat.fetched X0_0; rw [fill0_0 t d dflt0_0]; unfold Dat.blockOf iblk0; rw [hA]; try rfl)

/-! ## The body's accesses -/

/-- The whole of a 256×3840 block. -/
abbrev rX : Rect S256x3840 := Rect.unit (s := S256x3840) ![0, 0] S256x3840.size inb_S256x3840_S256x3840_0_0
/-- The whole of a 256×1 block. -/
abbrev rC : Rect S256x1 := Rect.unit (s := S256x1) ![0, 0] S256x1.size inb_S256x1_S256x1_0_0

/-! ## What the body leaves in each output window's buffer -/

/-- Output window 1 (the codes) after the body, from the input block. -/
def out0_1 (x0 : Vec F S256x3840 .bf16) : Vec F S256x3840 .i8 := View.canon [⟨rX, k0_pay6 (View.ld x0 rX)⟩]
/-- Its one store covers the buffer. -/
theorem cover0_1 (p0 : Vec F S256x3840 .i8) (y : S256x3840.Idx) :
    ∃ pc ∈ ([⟨rX, p0⟩] : List (View.Piece (Elt F) S256x3840 .i8)), y ∈ pc.1.set :=
  View.cover_of_tiled [⟨rX, p0⟩] S256x3840.size (by rfl) y

/-- Output window 2 (the codes less the zero point) after the body, from the input block. -/
def out0_2 (x0 : Vec F S256x3840 .bf16) : Vec F S256x3840 .fp8e4m3 := View.canon [⟨rX, k0_pay8 (View.ld x0 rX)⟩]
/-- Its one store covers the buffer. -/
theorem cover0_2 (p0 : Vec F S256x3840 .fp8e4m3) (y : S256x3840.Idx) :
    ∃ pc ∈ ([⟨rX, p0⟩] : List (View.Piece (Elt F) S256x3840 .fp8e4m3)), y ∈ pc.1.set :=
  View.cover_of_tiled [⟨rX, p0⟩] S256x3840.size (by rfl) y

/-- Output window 3 (the scales) after the body, from the input block. -/
def out0_3 (x0 : Vec F S256x3840 .bf16) : Vec F S256x1 .f32 := View.canon [⟨rC, k0_pay4 (View.ld x0 rX)⟩]
/-- Its one store covers the buffer. -/
theorem cover0_3 (p0 : Vec F S256x1 .f32) (y : S256x1.Idx) :
    ∃ pc ∈ ([⟨rC, p0⟩] : List (View.Piece (Elt F) S256x1 .f32)), y ∈ pc.1.set :=
  View.cover_of_tiled [⟨rC, p0⟩] S256x1.size (by rfl) y

/-- Output window 4 (the row minima) after the body, from the input block. -/
def out0_4 (x0 : Vec F S256x3840 .bf16) : Vec F S256x1 .f32 := View.canon [⟨rC, k0_pay3 (View.ld x0 rX)⟩]
/-- Its one store covers the buffer. -/
theorem cover0_4 (p0 : Vec F S256x1 .f32) (y : S256x1.Idx) :
    ∃ pc ∈ ([⟨rC, p0⟩] : List (View.Piece (Elt F) S256x1 .f32)), y ∈ pc.1.set :=
  View.cover_of_tiled [⟨rC, p0⟩] S256x1.size (by rfl) y

/-- Output window 5 (the shifts) after the body, from the input block. -/
def out0_5 (x0 : Vec F S256x3840 .bf16) : Vec F S256x1 .f32 := View.canon [⟨rC, k0_pay1 (k0_pay3 (View.ld x0 rX)) (k0_pay4 (View.ld x0 rX)) (k0_pay7 (View.ld x0 rX))⟩]
/-- Its one store covers the buffer. -/
theorem cover0_5 (p0 : Vec F S256x1 .f32) (y : S256x1.Idx) :
    ∃ pc ∈ ([⟨rC, p0⟩] : List (View.Piece (Elt F) S256x1 .f32)), y ∈ pc.1.set :=
  View.cover_of_tiled [⟨rC, p0⟩] S256x1.size (by rfl) y

/-! ## The body's triple -/

set_option maxHeartbeats 1000000 in
/-- The kernel body on whole staging memrefs, the input's at `x0` and the outputs' at anything, runs to the continuation
    holding the input's as it was and each output's at `out0_W x0`. -/
theorem sound_kernel0 (c : Dev nD) (E : Set ℕ) (i : grid0.Coords) (arg1 : Memref sig .tc .vmem S256x3840 .bf16) (harg1 : arg1.IsWhole) (arg2 : Memref sig .tc .vmem S256x3840 .i8) (harg2 : arg2.IsWhole) (arg3 : Memref sig .tc .vmem S256x3840 .fp8e4m3) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole)
    (x0 : Vec F S256x3840 .bf16) (K : PUnit → sProp 𝕄) :
    iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare (out0_1 x0) ∗ owns (c : Thread nD τ) arg3 fullShare (out0_2 x0) ∗ owns (c : Thread nD τ) arg4 fullShare (out0_3 x0) ∗ owns (c : Thread nD τ) arg5 fullShare (out0_4 x0) ∗ owns (c : Thread nD τ) arg6 fullShare (out0_5 x0)) -∗ K ⟨⟩))
      ⊢ wp frame (wpE (defs₀ (F := F)) Variants.none c none) E (cc0_quantise i arg1 harg1 arg2 harg2 arg3 harg3 arg4 harg4 arg5 harg5 arg6 harg6) K := by
  simp only [cc0_quantise_eq_skeleton]; unfold cc0_quantise_skel
  simp only [k0_part1_eq_skeleton]
  unfold owns
  iintro ⟨⟨%f0, %hf0, H0⟩, ⟨%d1, %f1, -, H1⟩, ⟨%d2, %f2, -, H2⟩, ⟨%d3, %f3, -, H3⟩, ⟨%d4, %f4, -, H4⟩, ⟨%d5, %f5, -, H5⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  isplitl [H2]
  · iexists _; isplitr
    swap; · iexact H2
    ipureintro
    exact View.read_writes_eq_canon _ _ _ (cover0_2 _)
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! ## The pipeline's proof data -/

/-- The proof data of the quantiser's pipeline on core `c`: the arrays as the region finds them (`V`); after the body
    at point `t` the input's buffer at its block and each output's at `out0_W` of the block; nothing owed; full shares. -/
def dat0 (c : Dev nD) : Dat τ (Elt F) Unit ℕ (UR sig nD τ) ℕ cfg0 c where
  A w := V c (Pipeline.arrRef spec0 w)
  after w t := match w with
    | ⟨0, _⟩ => X0_0 V c t
    | ⟨1, _⟩ => out0_1 (X0_0 V c t)
    | ⟨2, _⟩ => out0_2 (X0_0 V c t)
    | ⟨3, _⟩ => out0_3 (X0_0 V c t)
    | ⟨4, _⟩ => out0_4 (X0_0 V c t)
    | ⟨5, _⟩ => out0_5 (X0_0 V c t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = X0_0 V c t := by dsimp only [dat0]
theorem after0_1 (c : Dev nD) (t : Fin cfg0.N) : (dat0 V c).after 1 t = out0_1 (X0_0 V c t) := by dsimp only [dat0]
theorem after0_2 (c : Dev nD) (t : Fin cfg0.N) : (dat0 V c).after 2 t = out0_2 (X0_0 V c t) := by dsimp only [dat0]
theorem after0_3 (c : Dev nD) (t : Fin cfg0.N) : (dat0 V c).after 3 t = out0_3 (X0_0 V c t) := by dsimp only [dat0]
theorem after0_4 (c : Dev nD) (t : Fin cfg0.N) : (dat0 V c).after 4 t = out0_4 (X0_0 V c t) := by dsimp only [dat0]
theorem after0_5 (c : Dev nD) (t : Fin cfg0.N) : (dat0 V c).after 5 t = out0_5 (X0_0 V c t) := by dsimp only [dat0]

/-- The input's current staging buffer holds its block at every point. -/
theorem before0_0 (c : Dev nD) (t : Fin cfg0.N) (d) : (dat0 V c).before 0 t d = X0_0 V c t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (X0_0 V c t) _)
  isplitl [H0]; · iexact H0
  isplitl [H1]; · iexists _; iexact H1
  isplitl [H2]; · iexists _; iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The body obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Hand

end
-- ==== Proof.IdealRun.Region1.lean ====
/- The product call (region 1): what its body leaves in the output block and in the two buffers it carries from
   point to point, the pipeline's proof data over any contents `V` the region is entered with, and the body obligation. -/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Frame
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's staging buffer holds its block at every point, fetched there or not, for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: the whole of each buffer -/

/-- The whole of a 1024×3840 buffer. -/
abbrev rQ : Rect S1024x3840 := Rect.unit (s := S1024x3840) ![0, 0] S1024x3840.size inb_S1024x3840_S1024x3840_0_0
/-- The whole of a 1024×256 buffer. -/
abbrev rU : Rect S1024x256 := Rect.unit (s := S1024x256) ![0, 0] S1024x256.size inb_S1024x256_S1024x256_0_0
/-- The whole of a 1920×1024 buffer. -/
abbrev rP : Rect S1920x1024 := Rect.unit (s := S1920x1024) ![0, 0] S1920x1024.size inb_S1920x1024_S1920x1024_0_0
/-- The whole of a 1×1024 buffer. -/
abbrev rN : Rect S1x1024 := Rect.unit (s := S1x1024) ![0, 0] S1x1024.size inb_S1x1024_S1x1024_0_0
/-- The whole of a 256×1024 buffer. -/
abbrev rO : Rect S256x1024 := Rect.unit (s := S256x1024) ![0, 0] S256x1024.size inb_S256x1024_S256x1024_0_0
/-- The whole of a 1024×1 buffer. -/
abbrev rS : Rect S1024x1 := Rect.unit (s := S1024x1) ![0, 0] S1024x1.size inb_S1024x1_S1024x1_0_0
/-- The whole of a 1024×1024 buffer. -/
abbrev rY : Rect S1024x1024 := Rect.unit (s := S1024x1024) ![0, 0] S1024x1024.size inb_S1024x1024_S1024x1024_0_0
/-- The whole of a 3840×1024 buffer. -/
abbrev rW : Rect S3840x1024 := Rect.unit (s := S3840x1024) ![0, 0] S3840x1024.size inb_S3840x1024_S3840x1024_0_0

/-! ## What the body leaves -/

/-- The unpacked weights a first point of a column tile leaves in the carried weight buffer, from the packed block. -/
def sc0 (x2 : Vec F S1920x1024 .i8) : Vec F S3840x1024 .fp8e4m3 := View.canon [⟨rW, k1_pay2 (View.ld x2 rP)⟩]
/-- The column sums it leaves in the carried row. -/
def sc1 (x2 : Vec F S1920x1024 .i8) : Vec F S1x1024 .f32 := View.canon [⟨rN, k1_pay3 (View.ld x2 rP)⟩]
/-- The output block the body leaves, from the input blocks and the carried weights `y0` and column sums `y1`. -/
def out1_7 (y0 : Vec F S3840x1024 .fp8e4m3) (y1 : Vec F S1x1024 .f32) (x0 : Vec F S1024x3840 .fp8e4m3) (x1 : Vec F S1024x256 .bf16) (x3 : Vec F S1x1024 .f32) (x4 : Vec F S256x1024 .bf16) (x5 : Vec F S1024x1 .f32) (x6 : Vec F S1024x1 .f32) : Vec F S1024x1024 .bf16 :=
  View.canon [⟨rY, k1_pay4 (View.ld x0 rQ) (View.ld y0 rW) (View.ld x1 rU) (View.ld x4 rO) (View.ld x3 rN) (View.ld x5 rS) (View.ld x6 rS) (View.ld y1 rN)⟩]

/-- One store covers the buffer. -/
theorem coverY (p0 : Vec F S1024x1024 .bf16) (y : S1024x1024.Idx) :
    ∃ pc ∈ ([⟨rY, p0⟩] : List (View.Piece (Elt F) S1024x1024 .bf16)), y ∈ pc.1.set :=
  View.cover_of_tiled [⟨rY, p0⟩] S1024x1024.size (by rfl) y
/-- One store covers the buffer. -/
theorem coverW (p0 : Vec F S3840x1024 .fp8e4m3) (y : S3840x1024.Idx) :
    ∃ pc ∈ ([⟨rW, p0⟩] : List (View.Piece (Elt F) S3840x1024 .fp8e4m3)), y ∈ pc.1.set :=
  View.cover_of_tiled [⟨rW, p0⟩] S3840x1024.size (by rfl) y
/-- One store covers the buffer. -/
theorem coverN (p0 : Vec F S1x1024 .f32) (y : S1x1024.Idx) :
    ∃ pc ∈ ([⟨rN, p0⟩] : List (View.Piece (Elt F) S1x1024 .f32)), y ∈ pc.1.set :=
  View.cover_of_tiled [⟨rN, p0⟩] S1x1024.size (by rfl) y

/-! ## The body's branch -/

/-- The branch's condition at a grid coordinate: the row tile is the first. -/
abbrev cond1 (i : grid1.Coords) : Prop := (Scalar.cmpi .ne (Scalar.extui (Scalar.cmpi .eq (BitVec.ofNat 32 (i 1).val) 0#32)) 0#32) = 1#1
/-- It holds at the points divisible by 16. -/
theorem hcond1 : ∀ t : Fin cfg1.N, cond1 (grid1.coords t) ↔ t.val % 16 = 0 :=
  (fun t => by
    have ht : t.val < 224 := Nat.lt_of_lt_of_eq t.isLt N_1
    have e0 : (grid1.coords t 0).val = t.val / 16 % 14 := Pipeline.Grid.coords_val t 0 (by decide) rfl
    have e1 : (grid1.coords t 1).val = t.val / 1 % 16 := Pipeline.Grid.coords_val t 1 (by decide) rfl
    simp only [cond1, e0, e1]
    word_cmp
   : ∀ t : Fin grid1.N, cond1 (grid1.coords t) ↔ t.val % 16 = 0)

set_option maxHeartbeats 4000000 in
/-- At a first row tile the body fills the carried buffers from the packed block and uses them. -/
theorem sound_kernel1_A (c : Dev nD) (E : Set ℕ) (i : grid1.Coords) (arg2 : Memref sig .tc .vmem S1024x3840 .fp8e4m3) (harg2 : arg2.IsWhole) (arg3 : Memref sig .tc .vmem S1024x256 .bf16) (harg3 : arg3.IsWhole) (arg4 : Memref sig .tc .vmem S1920x1024 .i8) (harg4 : arg4.IsWhole) (arg5 : Memref sig .tc .vmem S1x1024 .f32) (harg5 : arg5.IsWhole) (arg6 : Memref sig .tc .vmem S256x1024 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (arg10 : Memref sig .tc .vmem S3840x1024 .fp8e4m3) (harg10 : arg10.IsWhole) (arg11 : Memref sig .tc .vmem S1x1024 .f32) (harg11 : arg11.IsWhole) (hc : cond1 i)
    (x0 : Vec F S1024x3840 .fp8e4m3) (x1 : Vec F S1024x256 .bf16) (x2 : Vec F S1920x1024 .i8) (x3 : Vec F S1x1024 .f32) (x4 : Vec F S256x1024 .bf16) (x5 : Vec F S1024x1 .f32) (x6 : Vec F S1024x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out1_7 (sc0 x2) (sc1 x2) x0 x1 x3 x4 x5 x6) ∗ owns (c : Thread nD τ) arg10 fullShare (sc0 x2) ∗ owns (c : Thread nD τ) arg11 fullShare (sc1 x2)) -∗ K ⟨⟩))
      ⊢ wp frame (wpE (defs₀ (F := F)) Variants.none c none) E (cc1_matmul i arg2 harg2 arg3 harg3 arg4 harg4 arg5 harg5 arg6 harg6 arg7 harg7 arg8 harg8 arg9 harg9 arg10 harg10 arg11 harg11) K := by
  simp only [cc1_matmul_eq_skeleton]; unfold cc1_matmul_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
  subst hf0 hf1 hf2 hf3 hf4 hf5 hf6
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (coverY _)).trans ?_
    unfold out1_7 sc0 sc1 sound_kernel1_A.sl.v5 sound_kernel1_A.sl.v21 sound_kernel1_A.sl.HS0_1 sound_kernel1_A.sl.HS1_1
    rw [View.readCov_eq_canon_ld _ _ _ (coverW _), View.readCov_eq_canon_ld _ _ _ (coverN _)]
    rfl
  isplitl [HS0]
  · iexists _; isplitr
    swap; · iexact HS0
    ipureintro
    exact View.read_writes_eq_canon _ _ _ (coverW _)
  iexists _; isplitr
  swap; · iexact HS1
  ipureintro
  exact View.read_writes_eq_canon _ _ _ (coverN _)

set_option maxHeartbeats 4000000 in
/-- At any other row tile the body reads the carried buffers and leaves them. -/
theorem sound_kernel1_B (c : Dev nD) (E : Set ℕ) (i : grid1.Coords) (arg2 : Memref sig .tc .vmem S1024x3840 .fp8e4m3) (harg2 : arg2.IsWhole) (arg3 : Memref sig .tc .vmem S1024x256 .bf16) (harg3 : arg3.IsWhole) (arg4 : Memref sig .tc .vmem S1920x1024 .i8) (harg4 : arg4.IsWhole) (arg5 : Memref sig .tc .vmem S1x1024 .f32) (harg5 : arg5.IsWhole) (arg6 : Memref sig .tc .vmem S256x1024 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (arg10 : Memref sig .tc .vmem S3840x1024 .fp8e4m3) (harg10 : arg10.IsWhole) (arg11 : Memref sig .tc .vmem S1x1024 .f32) (harg11 : arg11.IsWhole) (hc : ¬cond1 i)
    (x0 : Vec F S1024x3840 .fp8e4m3) (x1 : Vec F S1024x256 .bf16) (x2 : Vec F S1920x1024 .i8) (x3 : Vec F S1x1024 .f32) (x4 : Vec F S256x1024 .bf16) (x5 : Vec F S1024x1 .f32) (x6 : Vec F S1024x1 .f32) (y0 : Vec F S3840x1024 .fp8e4m3) (y1 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare y0 ∗ owns (c : Thread nD τ) arg11 fullShare y1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out1_7 y0 y1 x0 x1 x3 x4 x5 x6) ∗ owns (c : Thread nD τ) arg10 fullShare y0 ∗ owns (c : Thread nD τ) arg11 fullShare y1) -∗ K ⟨⟩))
      ⊢ wp frame (wpE (defs₀ (F := F)) Variants.none c none) E (cc1_matmul i arg2 harg2 arg3 harg3 arg4 harg4 arg5 harg5 arg6 harg6 arg7 harg7 arg8 harg8 arg9 harg9 arg10 harg10 arg11 harg11) K := by
  simp only [cc1_matmul_eq_skeleton]; unfold cc1_matmul_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
  subst hf0 hf1 hf2 hf3 hf4 hf5 hf6 hfs0 hfs1
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (coverY _)
  isplitl [HS0]
  · iexists fs0; isplitr; · ipureintro; rfl
    iexact HS0
  iexists fs1; isplitr; · ipureintro; rfl
  iexact HS1

/-! ## The carried buffers -/

/-- The first carried buffer, the unpacked weights. -/
abbrev scM0 : Memref sig .tc .vmem S3840x1024 .fp8e4m3 := Memref.whole cc1_scratch0
/-- The second, the column sums. -/
abbrev scM1 : Memref sig .tc .vmem S1x1024 .f32 := Memref.whole cc1_scratch1

/-- An assertion beside the quantise call's staging buffers, each whole at anything: this call never touches them. -/
def withOther (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ P)

/-- The region's scoped rest is the two carried buffers at anything, beside the other call's. -/
theorem PhiA1_eq (c : Dev nD) :
    (Pipeline.ΦA spec1 c : sProp 𝕄)
      = iprop(withOther c iprop((∃ d, owns (c : Thread nD τ) scM0 fullShare d) ∗ (∃ d, owns (c : Thread nD τ) scM1 fullShare d)) ∗ (∃ r, prngReg c r)) := by
  unfold Pipeline.ΦA withOther; rw [scopedRest1_eq]; simp only [scM0, scM1, owns_whole]; try rfl

/-- The packed weight block depends on the column tile alone: it does not change between points of one tile. -/
theorem iblk1_2_step (c : Dev nD) (t : Fin cfg1.N) (h : ¬t.val % 16 = 0) :
    iblk1 V c 2 ⟨t.val - 1, Nat.lt_of_le_of_lt (Nat.sub_le _ _) t.isLt⟩ = iblk1 V c 2 t := by
  have hf : (cfg1.win 2).fetch t = false := by
    rw [← Bool.not_eq_true, fetch1_2 t]; exact h
  have hi := (Pipeline.Window.index_eq_of_fetch (cfg1.win 2) rfl t hf).2
  have hblk : ∀ t t' : Fin cfg1.N, (cfg1.win 2).index t = (cfg1.win 2).index t' → iblk1 V c 2 t = iblk1 V c 2 t' := by
    intro t t' hh
    unfold iblk1; funext j
    rw [View.read_apply, View.read_apply]
    show _root_.cast _ (V c (Pipeline.arrRef spec1 2) ((cfg1.win 2).arr.view.emb (((cfg1.win 2).rect t).emb _)))
      = _root_.cast _ (V c (Pipeline.arrRef spec1 2) ((cfg1.win 2).arr.view.emb (((cfg1.win 2).rect t').emb _)))
    congr 3
    funext a; apply Fin.ext
    rw [Rect.emb_apply, Rect.emb_apply]
    show (cfg1.win 2).kind.off ((cfg1.win 2).index t a) ((cfg1.win 2).size a) + 1 * (j a).val
      = (cfg1.win 2).kind.off ((cfg1.win 2).index t' a) ((cfg1.win 2).size a) + 1 * (j a).val
    rw [hh]
  exact (hblk _ _ hi).symm

/-- What holds before point `n`: nothing known of the carried buffers at the first, afterwards the weights and column
    sums of the column tile the point before was in. -/
def PhiS (c : Dev nD) : (n : ℕ) → n ≤ cfg1.N → sProp 𝕄
  | 0, _ => Pipeline.ΦA spec1 c
  | n + 1, hn => iprop(withOther c iprop(owns (c : Thread nD τ) scM0 fullShare (sc0 (iblk1 V c 2 ⟨n, hn⟩)) ∗ owns (c : Thread nD τ) scM1 fullShare (sc1 (iblk1 V c 2 ⟨n, hn⟩))) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (t : Fin cfg1.N) :
    PhiS V c (t.val + 1) t.isLt = iprop(withOther c iprop(owns (c : Thread nD τ) scM0 fullShare (sc0 (iblk1 V c 2 t)) ∗ owns (c : Thread nD τ) scM1 fullShare (sc1 (iblk1 V c 2 t))) ∗ (∃ r, prngReg c r)) := rfl
theorem PhiS_pos (c : Dev nD) (n : ℕ) (h : n ≤ cfg1.N) (hz : n ≠ 0) :
    PhiS V c n h = iprop(withOther c iprop(owns (c : Thread nD τ) scM0 fullShare (sc0 (iblk1 V c 2 ⟨n - 1, by omega⟩)) ∗ owns (c : Thread nD τ) scM1 fullShare (sc1 (iblk1 V c 2 ⟨n - 1, by omega⟩))) ∗ (∃ r, prngReg c r)) := by
  cases n with
  | zero => exact absurd rfl hz
  | succ n => rfl

/-! ## The pipeline's proof data -/

/-- The proof data of the product's pipeline on core `c`: the arrays as the region finds them (`V`); after the body at
    point `t` each input's buffer at its block and the output's at `out1_7` of the blocks and of the carried buffers of
    the point's column tile. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (sc0 (iblk1 V c 2 t)) (sc1 (iblk1 V c 2 t)) (iblk1 V c 0 t) (iblk1 V c 1 t) (iblk1 V c 3 t) (iblk1 V c 4 t) (iblk1 V c 5 t) (iblk1 V c 6 t)
  Φ t := PhiS V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's number. -/
theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

/-! What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (sc0 (iblk1 V c 2 t)) (sc1 (iblk1 V c 2 t)) (iblk1 V c 0 t) (iblk1 V c 1 t) (iblk1 V c 3 t) (iblk1 V c 4 t) (iblk1 V c 5 t) (iblk1 V c 6 t) := by dsimp only [dat1]

/-! Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 6400000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl,
    after1_0, after1_1, after1_2, after1_3, after1_4, after1_5, after1_6, after1_7]
  rw [show (dat1 V c).Φ t.succ = PhiS V c (t.val + 1) t.isLt from rfl, PhiS_succ]
  by_cases h0 : t.val % 16 = 0
  · by_cases hz : t.val = 0
    · rw [PhiS_castSucc V c t, PhiS_zero V c _ _ hz, PhiA1_eq]; unfold withOther
      iintro ⟨⟨⟨HR0, HR1, HR2, HR3, HR4, HR5, HR6, HR7, HR8, HR9, HR10, HR11, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel1_A c Set.univ (grid1.coords t) _ _ _ _ _ _ _ _ _ _ _ _ _ _ _ _ _ _ _ _ ((hcond1 t).mpr h0) (iblk1 V c 0 t) (iblk1 V c 1 t) (iblk1 V c 2 t) (iblk1 V c 3 t) (iblk1 V c 4 t) (iblk1 V c 5 t) (iblk1 V c 6 t) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hg HR0 HR1 HR2 HR3 HR4 HR5 HR6 HR7 HR8 HR9 HR10 HR11]
      · isplitl [HS0 HS1 HR0 HR1 HR2 HR3 HR4 HR5 HR6 HR7 HR8 HR9 HR10 HR11]

        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [PhiS_castSucc V c t, PhiS_pos V c _ _ hz]; unfold withOther
      iintro ⟨⟨⟨HR0, HR1, HR2, HR3, HR4, HR5, HR6, HR7, HR8, HR9, HR10, HR11, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel1_A c Set.univ (grid1.coords t) _ _ _ _ _ _ _ _ _ _ _ _ _ _ _ _ _ _ _ _ ((hcond1 t).mpr h0) (iblk1 V c 0 t) (iblk1 V c 1 t) (iblk1 V c 2 t) (iblk1 V c 3 t) (iblk1 V c 4 t) (iblk1 V c 5 t) (iblk1 V c 6 t) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexists _; iexact HS0
      isplitl [HS1]; · iexists _; iexact HS1
      iintro ⟨H0, H1, H2, H3, H4, H5, H6, H7, HS0, HS1⟩
      isplitl [HS0 HS1 Hg HR0 HR1 HR2 HR3 HR4 HR5 HR6 HR7 HR8 HR9 HR10 HR11]
      · isplitl [HS0 HS1 HR0 HR1 HR2 HR3 HR4 HR5 HR6 HR7 HR8 HR9 HR10 HR11]

        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · have hz : t.val ≠ 0 := fun hz => h0 (by rw [hz])
    rw [PhiS_castSucc V c t, PhiS_pos V c _ _ hz, iblk1_2_step V c t h0]; unfold withOther
    iintro ⟨⟨⟨HR0, HR1, HR2, HR3, HR4, HR5, HR6, HR7, HR8, HR9, HR10, HR11, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel1_B c Set.univ (grid1.coords t) _ _ _ _ _ _ _ _ _ _ _ _ _ _ _ _ _ _ _ _ (fun h => h0 ((hcond1 t).mp h)) (iblk1 V c 0 t) (iblk1 V c 1 t) (iblk1 V c 2 t) (iblk1 V c 3 t) (iblk1 V c 4 t) (iblk1 V c 5 t) (iblk1 V c 6 t) (sc0 (iblk1 V c 2 t)) (sc1 (iblk1 V c 2 t)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hg HR0 HR1 HR2 HR3 HR4 HR5 HR6 HR7 HR8 HR9 HR10 HR11]
    · isplitl [HS0 HS1 HR0 HR1 HR2 HR3 HR4 HR5 HR6 HR7 HR8 HR9 HR10 HR11]

      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        isplitl [HR11]; · iexact HR11
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After the last point the invariant gives it back: the carried buffers' contents are forgotten. -/
theorem hout1 (c : Dev nD) : (dat1 V c).Φ (Fin.last cfg1.N) ⊢ Pipeline.ΦA spec1 c := by
  have hN : (Fin.last cfg1.N).val ≠ 0 := by rw [Fin.val_last]; have : cfg1.N = 224 := N_1; omega
  rw [show (dat1 V c).Φ (Fin.last cfg1.N) = PhiS V c (Fin.last cfg1.N).val (Nat.le_of_lt_succ (Fin.last cfg1.N).isLt) from rfl, PhiS_pos V c _ _ hN, PhiA1_eq]; unfold withOther
  iintro ⟨⟨HR0, HR1, HR2, HR3, HR4, HR5, HR6, HR7, HR8, HR9, HR10, HR11, HS0, HS1⟩, Hg⟩
  isplitl [HS0 HS1 HR0 HR1 HR2 HR3 HR4 HR5 HR6 HR7 HR8 HR9 HR10 HR11]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HS0]
    · iexists _; iexact HS0
    iexists _; iexact HS1
  iexact Hg

end Cert.KernelIdeal.Hand

end
-- ==== Proof.IdealRun.Run.lean ====
/- The run of @main: the contents of every buffer that outlives a call, followed through the host steps and the two
   calls, and the theorem that every execution terminates with those buffers at the last of these contents. -/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Frame
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.IdealRun.Region0
public import proofs.«01_k».proof.Proof.IdealRun.Region1
public import proofs.«01_k».proof.Proof.Gen.KernelIdeal.Regions
public import Idealize.ShloMosaic.Lib.Pipeline.Regions

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- @main's argument arrays. -/
abbrev argRefs : List (Ref sig .tc) := [main_arg0, main_arg1, main_arg2, main_arg3]

/-! ## The buffer contents at each boundary -/

/-- Core `c`'s buffers at launch. -/
abbrev W0 : Dev nD → Valuation τ sig (Elt F) := fun c b => m (c, b)

/-- After the host steps `hostOps0`. -/
abbrev W1 : Dev nD → Valuation τ sig (Elt F) := fun c => StableHlo.after hostOps0 (W0 m c)
/-- A reference `hostOps0` does not write keeps its contents across it. -/
theorem W1_of (c : Dev nD) (r : Ref sig .tc) (h : r ∉ hostOps0_W) : W1 m c (Proc.devRef .tc r) = W0 m c (Proc.devRef .tc r) :=
  StableHlo.after_of_writes_sub hostOps0 _ hostOps0_writes h
/-- The same read at the TensorCore's references. -/
abbrev V1 : (c : Dev nD) → (b : Ref sig .tc) → Buf (Elt F) ((c : Thread nD τ).loc b) := fun c b => W1 m c b

/-- At call 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- A reference that is none of the call's output arrays keeps its contents across it. -/
theorem W2_of (c : Dev nD) (r : Ref sig .tc) (h : ∀ w : Fin cfg0.W, Pipeline.arrRef spec0 w = r → (cfg0.win w).isOut = false) :
    W2 m c (Proc.devRef .tc r) = W1 m c (Proc.devRef .tc r) := by
  by_cases hw : ∃ w : Fin cfg0.W, Pipeline.arrRef spec0 w = r
  · obtain ⟨w, rfl⟩ := hw
    exact (W2_arr m c w).trans (((dat0 (V1 m) c).arrAt_in w (h w rfl) _).trans (A_eq0 (V1 m) c w))
  · exact W2_of_ne m c r fun w e => hw ⟨w, e⟩
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- Every argument among the call's arrays is an input's. -/
theorem argsIn0 : ∀ a ∈ argRefs, ∀ w : Fin cfg0.W, Pipeline.arrRef spec0 w = a → (cfg0.win w).isOut = false :=
  ListAll.forall_mem_of_all_decide (by decide +kernel)

/-- After the host steps `hostOps1`. -/
abbrev W3 : Dev nD → Valuation τ sig (Elt F) := fun c => StableHlo.after hostOps1 (W2 m c)
/-- A reference `hostOps1` does not write keeps its contents across it. -/
theorem W3_of (c : Dev nD) (r : Ref sig .tc) (h : r ∉ hostOps1_W) : W3 m c (Proc.devRef .tc r) = W2 m c (Proc.devRef .tc r) :=
  StableHlo.after_of_writes_sub hostOps1 _ hostOps1_writes h
/-- The same read at the TensorCore's references. -/
abbrev V3 : (c : Dev nD) → (b : Ref sig .tc) → Buf (Elt F) ((c : Thread nD τ).loc b) := fun c b => W3 m c b

/-- At call 1's exit: its arrays at what the pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- A reference that is none of the call's output arrays keeps its contents across it. -/
theorem W4_of (c : Dev nD) (r : Ref sig .tc) (h : ∀ w : Fin cfg1.W, Pipeline.arrRef spec1 w = r → (cfg1.win w).isOut = false) :
    W4 m c (Proc.devRef .tc r) = W3 m c (Proc.devRef .tc r) := by
  by_cases hw : ∃ w : Fin cfg1.W, Pipeline.arrRef spec1 w = r
  · obtain ⟨w, rfl⟩ := hw
    exact (W4_arr m c w).trans (((dat1 (V3 m) c).arrAt_in w (h w rfl) _).trans (A_eq1 (V3 m) c w))
  · exact W4_of_ne m c r fun w e => hw ⟨w, e⟩
/-- The same read at the TensorCore's references. -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- Every argument among the call's arrays is an input's. -/
theorem argsIn1 : ∀ a ∈ argRefs, ∀ w : Fin cfg1.W, Pipeline.arrRef spec1 w = a → (cfg1.win w).isOut = false :=
  ListAll.forall_mem_of_all_decide (by decide +kernel)

/-- After the host steps `hostOps2`. -/
abbrev W5 : Dev nD → Valuation τ sig (Elt F) := fun c => StableHlo.after hostOps2 (W4 m c)
/-- A reference `hostOps2` does not write keeps its contents across it. -/
theorem W5_of (c : Dev nD) (r : Ref sig .tc) (h : r ∉ hostOps2_W) : W5 m c (Proc.devRef .tc r) = W4 m c (Proc.devRef .tc r) :=
  StableHlo.after_of_writes_sub hostOps2 _ hostOps2_writes h
/-- The same read at the TensorCore's references. -/
abbrev V5 : (c : Dev nD) → (b : Ref sig .tc) → Buf (Elt F) ((c : Thread nD τ).loc b) := fun c b => W5 m c b

/-- Every argument ends as launched. -/
theorem W5_args (c : Dev nD) : ∀ a ∈ argRefs, W5 m c (Proc.devRef .tc a) = m ((c : Thread nD τ).loc a) := fun a ha =>
  (W5_of m c a ((ListAll.forall_mem_of_all_decide (by decide +kernel) : ∀ a ∈ argRefs, a ∉ hostOps2_W) a ha)).trans <|
  (W4_of m c a (argsIn1 a ha)).trans <|
  (W3_of m c a ((ListAll.forall_mem_of_all_decide (by decide +kernel) : ∀ a ∈ argRefs, a ∉ hostOps1_W) a ha)).trans <|
  (W2_of m c a (argsIn0 a ha)).trans <|
  (W1_of m c a ((ListAll.forall_mem_of_all_decide (by decide +kernel) : ∀ a ∈ argRefs, a ∉ hostOps0_W) a ha))

/-! ## The proof data family and the thread state -/

/-- The prefetched tables' admissible contents: no call has a table. -/
abbrev adm : (p : Fin 2) → (pcfgs (F := F) p).Adm := fun p => (cfgs p).toPCfg_adm
/-- Every call's proof data, each at its entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a call takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    and put back at the exit contents; the generator register goes in and comes out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) (A_eq0 (V1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    and put back at the exit contents; the generator register goes in and comes out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) (A_eq1 (V3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m) c); unfold Pipeline.ΦA
    iintro ⟨Hp, -, Hr⟩
    isplitl [Hr]; · iexact Hr
    iexact Hp
  hout c := by
    rw [Pipeline.ownSems0_none]
    refine BIBase.Entails.trans (hout1 (V3 m) c) ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
/-- @main IS the run of the segments: `Gen.main_chain`, then the segments' run against that chain by the kernel's
    definitional check. -/
theorem main_run (c : Dev nD) : main (F := F) c = Pipeline.Seg.run (segs m) := (main_chain c).trans (by chain_rfl)

/-- The TensorCore has no unscoped semaphore. -/
theorem no_unscoped : ∀ sm : SemLoc sig, sm.isScoped .tc = true := by decide

-- the launch theorem's implicit arguments are found by unifying its conclusion with this one, which takes unfolding
-- plain definitions in a metavariable's type
set_option backward.isDefEq.respectTransparency.types false in
/-- The run: from any memory with zero counters every execution of @main on the TensorCores terminates, nothing
    faulting, and every final state has every buffer that outlives the calls at the last contents `W5` and every
    semaphore counter at zero. -/
theorem run (ρ : Dev nD → PrngReg) : θ_run defs (onTc (τ := τ) (main (F := F))) ⟨m, fun _ => 0, ρ⟩ (fun r =>
      (∀ c : Dev nD, ∀ b ∈ Pipeline.ucRefs τ sig, r.2.mem (((c : Thread nD τ)).1, b) = W5 m c b)
      ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h hz => ⟨h, funext fun g => hz g (.inr (no_unscoped g.2))⟩)

/-- The arguments end unchanged and every counter at zero. -/
theorem frame (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨(h.1 c _ (mem_uc main_arg0 (by decide))).trans (W5_args m c main_arg0 (by decide)),
     (h.1 c _ (mem_uc main_arg1 (by decide))).trans (W5_args m c main_arg1 (by decide)),
     (h.1 c _ (mem_uc main_arg2 (by decide))).trans (W5_args m c main_arg2 (by decide)),
     (h.1 c _ (mem_uc main_arg3 (by decide))).trans (W5_args m c main_arg3 (by decide))⟩, h.2⟩) (run m ρ)

end Cert.KernelIdeal.Hand

end
-- ==== Proof.Value.Rows.lean ====
/- The quantiser of one row of 3840 extended reals, as plain functions: its least and greatest value, its scale, its
   codes and its zero point; and what the quantiser call's body computes of a block, read at an index, in these terms. -/
module

public import proofs.«01_k».proof.Proof.Gen.KernelIdeal.Skeleton
public import Idealize.ShloMosaic.Lib.Pointwise

@[expose] public section

set_option maxRecDepth 16384

noncomputable section

namespace Cert.Rows

open Idealize.ShloMosaic Idealize.ShloMosaic.TcCoe Idealize.SL.Sem

/-- The number fifteen, as the programs write it. -/
abbrev c15 : EReal := Ideal.ofBits .f32 0x41700000#32
/-- The least value of a row. -/
def mn (v : Fin 3840 → EReal) : EReal := Finset.univ.fold min (Ideal.ofBits .f32 0x7F800000#32) v
/-- The greatest value of a row. -/
def mx (v : Fin 3840 → EReal) : EReal := Finset.univ.fold max (Ideal.ofBits .f32 0xFF800000#32) v
/-- The scale of a row with greatest value `hi` and least value `lo`: a fifteenth of the range, one when that is empty. -/
def scaleOf (hi lo : EReal) : EReal := if hi = lo then 1 else Ideal.div (hi - lo) c15
/-- A value rounded to the nearest integer and clipped to `[0, 15]`. -/
def clip (y : EReal) : EReal := min c15 (max 0 (Ideal.liftRound Ideal.roundHalfEven y))
/-- The code of the value `x` in a row with least value `lo` and scale `s`. -/
def codeOf (x lo s : EReal) : EReal := clip (Ideal.div (x - lo) s)
/-- The scale of a row. -/
def scale (v : Fin 3840 → EReal) : EReal := scaleOf (mx v) (mn v)
/-- The code of the row's entry `k`. -/
def code (v : Fin 3840 → EReal) (k : Fin 3840) : EReal := codeOf (v k) (mn v) (scale v)
/-- The row's zero point: the code zero would have. -/
def zp (v : Fin 3840 → EReal) : EReal := codeOf 0 (mn v) (scale v)
/-- A code as the byte the programs store. -/
def byte (y : EReal) : BitVec 8 := (Ideal.fptosi 32 y).truncate 8

open Cert.KernelIdeal Cert.KernelIdeal.Gen

/-- The block's column of least values. -/
theorem pay3_at (b : FVec Ideal S256x3840 .bf16) (p : Fin 256) (q : Fin 1) :
    k0_pay3 (F := Ideal) b (ix2 p q) = mn fun k => b (ix2 p k) := by
  pointwise [k0_pay3, k0_pay2, mn]

/-- The block's column of greatest values. -/
theorem max_at (b : FVec Ideal S256x3840 .bf16) (p : Fin 256) (q : Fin 1) :
    shapeCast S256x1 (multiReduction (F := Ideal) .maximumf [1] S256 (k0_pay2 (F := Ideal) b) 0xFF800000#32 reduces_S256x3840_S256
      (.inl rfl) rfl) shapeCasts_S256_S256x1 (ix2 p q) = mx fun k => b (ix2 p k) := by
  pointwise [k0_pay2, mx]

/-! The body's steps, each over arbitrary operands. -/

theorem scale_step (v6 v3 : FVec Ideal S256x1 .f32) (p : Fin 256) (q : Fin 1) :
    select (cmpf (F := Ideal) .oeq v6 v3) (broadcast S256x1 (Scalar.ofBits (F := Ideal) .f32 0x3F800000#32))
      (divf (subf v6 v3) (broadcast S256x1 (Scalar.ofBits (F := Ideal) .f32 0x41700000#32))) (ix2 p q)
      = scaleOf (v6 (ix2 p q)) (v3 (ix2 p q)) := by
  pointwise [scaleOf]

theorem code_step (v2 : FVec Ideal S256x3840 .f32) (v3 v12 : FVec Ideal S256x1 .f32) (p : Fin 256) (k : Fin 3840) :
    minimumf (broadcast S256x3840 (Scalar.ofBits (F := Ideal) .f32 0x41700000#32))
      (maximumf (broadcast S256x3840 (Scalar.ofBits (F := Ideal) .f32 0x00000000#32))
        (roundeven (divf (subf v2 (broadcastTo S256x3840 v3 broadcasts_S256x1_S256x3840))
          (broadcastTo S256x3840 v12 broadcasts_S256x1_S256x3840)))) (ix2 p k)
      = codeOf (v2 (ix2 p k)) (v3 (ix2 p 0)) (v12 (ix2 p 0)) := by
  pointwise [codeOf, clip]

theorem byte_step (v : FVec Ideal S256x3840 .f32) (p : Fin 256) (k : Fin 3840) :
    trunci 8 (fptosi (F := Ideal) 32 v) natLt_8_32 (ix2 p k) = byte (v (ix2 p k)) := by
  pointwise [byte]
  rfl

theorem zp_step (v3 v12 : FVec Ideal S256x1 .f32) (p : Fin 256) (q : Fin 1) :
    minimumf (broadcast S256x1 (Scalar.ofBits (F := Ideal) .f32 0x41700000#32))
      (maximumf (broadcast S256x1 (Scalar.ofBits (F := Ideal) .f32 0x00000000#32))
        (roundeven (divf (subf (broadcast S256x1 (Scalar.ofBits (F := Ideal) .f32 0x00000000#32)) v3) v12))) (ix2 p q)
      = codeOf 0 (v3 (ix2 p q)) (v12 (ix2 p q)) := by
  pointwise [codeOf, clip]

theorem diff_step (v21 : FVec Ideal S256x3840 .f32) (v32 : FVec Ideal S256x1 .f32) (p : Fin 256) (k : Fin 3840) :
    truncf .fp8e4m3 (subf v21 (broadcastTo S256x3840 v32 broadcasts_S256x1_S256x3840)) bitsLt_fp8e4m3_f32 (ix2 p k)
      = v21 (ix2 p k) - v32 (ix2 p 0) := by
  pointwise []

theorem shift_step (v4 v12 v32 : FVec Ideal S256x1 .f32) (p : Fin 256) (q : Fin 1) :
    k0_pay1 (F := Ideal) v4 v12 v32 (ix2 p q) = v12 (ix2 p q) * v32 (ix2 p q) + v4 (ix2 p q) := by
  pointwise [k0_pay1]

/-! The body's values. -/

/-- The block's column of scales. -/
theorem pay4_at (b : FVec Ideal S256x3840 .bf16) (p : Fin 256) (q : Fin 1) :
    k0_pay4 (F := Ideal) b (ix2 p q) = scale fun k => b (ix2 p k) :=
  (scale_step _ (k0_pay3 (F := Ideal) b) p q).trans (by rw [max_at, pay3_at]; rfl)

/-- The block itself, widened. -/
theorem pay2_at (b : FVec Ideal S256x3840 .bf16) (p : Fin 256) (k : Fin 3840) :
    k0_pay2 (F := Ideal) b (ix2 p k) = b (ix2 p k) := by
  pointwise [k0_pay2]

/-- The block of codes. -/
theorem pay5_at (b : FVec Ideal S256x3840 .bf16) (p : Fin 256) (k : Fin 3840) :
    k0_pay5 (F := Ideal) b (ix2 p k) = code (fun k => b (ix2 p k)) k :=
  (code_step (k0_pay2 (F := Ideal) b) (k0_pay3 (F := Ideal) b) (k0_pay4 (F := Ideal) b) p k).trans
    (by rw [pay2_at, pay3_at, pay4_at]; rfl)

/-- The block of codes as bytes. -/
theorem pay6_at (b : FVec Ideal S256x3840 .bf16) (p : Fin 256) (k : Fin 3840) :
    k0_pay6 (F := Ideal) b (ix2 p k) = byte (code (fun k => b (ix2 p k)) k) :=
  (byte_step (k0_pay5 (F := Ideal) b) p k).trans (by rw [pay5_at])

/-- The block's column of zero points. -/
theorem pay7_at (b : FVec Ideal S256x3840 .bf16) (p : Fin 256) (q : Fin 1) :
    k0_pay7 (F := Ideal) b (ix2 p q) = zp fun k => b (ix2 p k) :=
  (zp_step (k0_pay3 (F := Ideal) b) (k0_pay4 (F := Ideal) b) p q).trans (by rw [pay3_at, pay4_at]; rfl)

/-- The block of codes less their row's zero point. -/
theorem pay8_at (b : FVec Ideal S256x3840 .bf16) (p : Fin 256) (k : Fin 3840) :
    k0_pay8 (F := Ideal) b (ix2 p k) = code (fun k => b (ix2 p k)) k - zp (fun k => b (ix2 p k)) :=
  (diff_step (k0_pay5 (F := Ideal) b) (k0_pay7 (F := Ideal) b) p k).trans (by rw [pay5_at, pay7_at])

/-- The block's column of shifts: the value the zero point stands for. -/
theorem pay1_at (b : FVec Ideal S256x3840 .bf16) (p : Fin 256) (q : Fin 1) :
    k0_pay1 (F := Ideal) (k0_pay3 b) (k0_pay4 b) (k0_pay7 b) (ix2 p q)
      = scale (fun k => b (ix2 p k)) * zp (fun k => b (ix2 p k)) + mn (fun k => b (ix2 p k)) := by
  rw [shift_step, pay3_at, pay4_at, pay7_at]

end Cert.Rows

end
-- ==== Proof.Value.Region0.lean ====
/- The quantiser call (region 0) at the extended reals: what each of its result arrays holds when it ends, as a function
   of the rows of the array it reads. -/
module

public import proofs.«01_k».proof.Proof.IdealRun.Region0
public import proofs.«01_k».proof.Proof.Value.Rows
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The part of row `r` that is quantised: its first 3840 entries. -/
def rowOf (x : FVec Ideal S16384x4096 .bf16) (r : Fin 16384) : Fin 3840 → EReal := fun k => x (ix2 r ⟨k.val, by omega⟩)

/-- Every window of the call is at row block `t` at point `t`. -/
theorem idx0 : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] :=
  (by decide +kernel : ∀ t : Fin grid0.N, _)

/-- Row `p` of the block at point `t` is row `256 t + p` of the array. -/
theorem X0_at (c : Dev nD) (t : Fin cfg0.N) (p : Fin 256) (k : Fin 3840) (h : t.val * 256 + p.val < 16384) :
    X0_0 V c t (ix2 p k) = rowOf (V c main_v0) ⟨t.val * 256 + p.val, h⟩ k := by
  unfold X0_0 Pipeline.Window.fill
  rw [dif_pos (moved0_0 t _)]
  blk_simp [iblk0, rowOf]
  congr 1
  blk_ext [(idx0 t).1]

/-- … and as a whole row. -/
theorem X0_row (c : Dev nD) (t : Fin cfg0.N) (p : Fin 256) (h : t.val * 256 + p.val < 16384) :
    (fun k => X0_0 V c t (ix2 p k)) = rowOf (V c main_v0) ⟨t.val * 256 + p.val, h⟩ :=
  funext fun k => X0_at V c t p k h

theorem row_lt (t : Fin cfg0.N) (p : Fin 256) : t.val * 256 + p.val < 16384 := by
  have h : cfg0.N = 64 := N_0
  have := t.isLt
  omega

/-- The codes, as bytes. -/
theorem final0_1 (c : Dev nD) : (dat0 V c).arrAt 1 cfg0.N
    = fun i : S16384x3840.Idx => Rows.byte (Rows.code (rowOf (V c main_v0) (i 0)) (i 1)) := by
  refine (dat0 V c).arrAt_eq_of_covers 1 _ (by decide +kernel) fun t _ y => ?_
  blk_simp
  rw [after0_1]
  unfold out0_1
  rw [View.canon_unit_zero hz2, View.ld_unit_zero hz2]
  idx_vars y
  have e0 : ((View.whole main_v1_0).slice (win0_1.rect t)).emb (ix2 y0 y1) 0 = (⟨t.val * 256 + y0.val, row_lt t y0⟩ : Fin 16384) :=
    Fin.ext (by blk_simp [(idx0 t).2.1])
  have e1 : ((View.whole main_v1_0).slice (win0_1.rect t)).emb (ix2 y0 y1) 1 = y1 := Fin.ext (by blk_simp [(idx0 t).2.1])
  rw [Rows.pay6_at, X0_row V c t y0 (row_lt t y0), e0, e1]

/-- The codes less their row's zero point. -/
theorem final0_2 (c : Dev nD) : (dat0 V c).arrAt 2 cfg0.N
    = fun i : S16384x3840.Idx => Rows.code (rowOf (V c main_v0) (i 0)) (i 1) - Rows.zp (rowOf (V c main_v0) (i 0)) := by
  refine (dat0 V c).arrAt_eq_of_covers 2 _ (by decide +kernel) fun t _ y => ?_
  blk_simp
  rw [after0_2]
  unfold out0_2
  rw [View.canon_unit_zero hz2, View.ld_unit_zero hz2]
  idx_vars y
  have e0 : ((View.whole main_v1_1).slice (win0_2.rect t)).emb (ix2 y0 y1) 0 = (⟨t.val * 256 + y0.val, row_lt t y0⟩ : Fin 16384) :=
    Fin.ext (by blk_simp [(idx0 t).2.2.1])
  have e1 : ((View.whole main_v1_1).slice (win0_2.rect t)).emb (ix2 y0 y1) 1 = y1 := Fin.ext (by blk_simp [(idx0 t).2.2.1])
  rw [Rows.pay8_at, X0_row V c t y0 (row_lt t y0), e0, e1]

/-- The scales. -/
theorem final0_3 (c : Dev nD) : (dat0 V c).arrAt 3 cfg0.N
    = fun i : S16384x1.Idx => Rows.scale (rowOf (V c main_v0) (i 0)) := by
  refine (dat0 V c).arrAt_eq_of_covers 3 _ (by decide +kernel) fun t _ y => ?_
  blk_simp
  rw [after0_3]
  unfold out0_3
  rw [View.canon_unit_zero hz2, View.ld_unit_zero hz2]
  idx_vars y
  have e0 : ((View.whole main_v1_2).slice (win0_3.rect t)).emb (ix2 y0 y1) 0 = (⟨t.val * 256 + y0.val, row_lt t y0⟩ : Fin 16384) :=
    Fin.ext (by blk_simp [(idx0 t).2.2.2.1])
  rw [Rows.pay4_at, X0_row V c t y0 (row_lt t y0), e0]

/-- The least values. -/
theorem final0_4 (c : Dev nD) : (dat0 V c).arrAt 4 cfg0.N
    = fun i : S16384x1.Idx => Rows.mn (rowOf (V c main_v0) (i 0)) := by
  refine (dat0 V c).arrAt_eq_of_covers 4 _ (by decide +kernel) fun t _ y => ?_
  blk_simp
  rw [after0_4]
  unfold out0_4
  rw [View.canon_unit_zero hz2, View.ld_unit_zero hz2]
  idx_vars y
  have e0 : ((View.whole main_v1_3).slice (win0_4.rect t)).emb (ix2 y0 y1) 0 = (⟨t.val * 256 + y0.val, row_lt t y0⟩ : Fin 16384) :=
    Fin.ext (by blk_simp [(idx0 t).2.2.2.2.1])
  rw [Rows.pay3_at, X0_row V c t y0 (row_lt t y0), e0]

/-- The shifts: what each row's zero point stands for. -/
theorem final0_5 (c : Dev nD) : (dat0 V c).arrAt 5 cfg0.N
    = fun i : S16384x1.Idx => Rows.scale (rowOf (V c main_v0) (i 0)) * Rows.zp (rowOf (V c main_v0) (i 0)) + Rows.mn (rowOf (V c main_v0) (i 0)) := by
  refine (dat0 V c).arrAt_eq_of_covers 5 _ (by decide +kernel) fun t _ y => ?_
  blk_simp
  rw [after0_5]
  unfold out0_5
  rw [View.canon_unit_zero hz2, View.ld_unit_zero hz2]
  idx_vars y
  have e0 : ((View.whole main_v1_4).slice (win0_5.rect t)).emb (ix2 y0 y1) 0 = (⟨t.val * 256 + y0.val, row_lt t y0⟩ : Fin 16384) :=
    Fin.ext (by blk_simp [(idx0 t).2.2.2.2.2])
  rw [Rows.pay1_at, X0_row V c t y0 (row_lt t y0), e0]

end Cert.KernelIdeal.Hand

end
-- ==== Proof.Value.Blocks.lean ====
/- The matrix-multiply call's body (region 1), read at an index: the four-bit integers unpacked from a block of bytes,
   the sums of their columns, and the block of the result. -/
module

public import proofs.«01_k».proof.Proof.Gen.KernelIdeal.Skeleton
public import Idealize.ShloMosaic.Lib.Pointwise

@[expose] public section

set_option maxRecDepth 16384

noncomputable section

namespace Cert.Blocks

open Idealize.ShloMosaic Idealize.ShloMosaic.TcCoe Idealize.SL.Sem
open Cert.KernelIdeal Cert.KernelIdeal.Gen

/-- The signed integer in a byte's low (`h` even) or high (`h` odd) four bits. -/
def nib (h : ℕ) (p : BitVec 8) : ℤ := if h % 2 = 0 then ((p <<< 4).sshiftRight 4).toInt else (p.sshiftRight 4).toInt
/-- The weight matrix's entry in row `k` of a column of bytes: row `2 i` is byte `i`'s low half, row `2 i + 1` its high half. -/
def wt (col : Fin 1920 → BitVec 8) (k : Fin 3840) : ℝ := (nib k.val (col ⟨k.val / 2, by omega⟩) : ℝ)

theorem k1_pay1_at (b : IVec S1920x1024 8) (k : Fin 3840) (n : Fin 1024) :
    k1_pay1 (F := Ideal) b (ix2 k n) = ((wt (fun i => b (ix2 i n)) k : ℝ) : EReal) := by
  pointwise [k1_pay1, wt, nib]
  by_cases h : k.val % 2 = 0
  · rw [if_pos h, dif_pos (by omega)]; rfl
  · rw [if_neg h, dif_neg (by omega)]; rfl

theorem k1_pay2_at (v : FVec Ideal S3840x1024 .bf16) (k : Fin 3840) (n : Fin 1024) :
    shapeCast S3840x1024 (truncf .fp8e4m3 v bitsLt_fp8e4m3_bf16) shapeCasts_S3840x1024_S3840x1024 (ix2 k n) = v (ix2 k n) := by
  pointwise []

theorem k1_pay3_at (v : FVec Ideal S3840x1024 .bf16) (q : Fin 1) (n : Fin 1024) :
    shapeCast S1x1024 (shapeCast S1x1024 (multiReduction (F := Ideal) .add [0] S1024 (extf .f32 v bitsLt_bf16_f32)
      0x00000000#32 reduces_S3840x1024_S1024 (.inl rfl) rfl) shapeCasts_S1024_S1x1024) shapeCasts_S1x1024_S1x1024 (ix2 q n)
      = ∑ k : Fin 3840, v (ix2 k n) := by
  pointwise []

theorem k1_pay4_at (q : FVec Ideal S1024x3840 .fp8e4m3) (w : FVec Ideal S3840x1024 .fp8e4m3) (x : FVec Ideal S1024x256 .bf16)
    (wo : FVec Ideal S256x1024 .bf16) (ws : FVec Ideal S1x1024 .f32) (sc sh : FVec Ideal S1024x1 .f32) (cs : FVec Ideal S1x1024 .f32)
    (p n : Fin 1024) :
    k1_pay4 (F := Ideal) q w x wo ws sc sh cs (ix2 p n)
      = sc (ix2 p 0) * ws (ix2 0 n) * (∑ k : Fin 3840, q (ix2 p k) * w (ix2 k n))
        + sh (ix2 p 0) * (ws (ix2 0 n) * cs (ix2 0 n)) + (∑ k : Fin 256, x (ix2 p k) * wo (ix2 k n)) := by
  pointwise [k1_pay4]

end Cert.Blocks

end
-- ==== Proof.Value.Region1.lean ====
/- The matrix-multiply call (region 1) at the extended reals: what its result array holds when it ends, as a function of
   the arrays it reads. -/
module

public import proofs.«01_k».proof.Proof.IdealRun.Region1
public import proofs.«01_k».proof.Proof.Value.Blocks
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz2' : (![0, 0] : Fin 2 → Nat) = fun _ => 0 := funext fun a => by fin_cases a <;> rfl

/-- The windows' block indices: point `t` is at row block `t % 16` and column block `t / 16`. -/
theorem idx1 : ∀ t : Fin cfg1.N, win1_0.index t = ![t.val % 16, 0] ∧ win1_1.index t = ![t.val % 16, 15]
    ∧ win1_2.index t = ![0, t.val / 16] ∧ win1_3.index t = ![0, t.val / 16] ∧ win1_4.index t = ![0, t.val / 16]
    ∧ win1_5.index t = ![t.val % 16, 0] ∧ win1_6.index t = ![t.val % 16, 0] ∧ win1_7.index t = ![t.val % 16, t.val / 16] :=
  (by decide +kernel : ∀ t : Fin grid1.N, _)

/-- The array row of the block row `p` at point `t`. -/
def ar (t : Fin cfg1.N) (p : Fin 1024) : Fin 16384 := ⟨t.val % 16 * 1024 + p.val, by omega⟩
/-- The array column of the block column `n` at point `t`. -/
def ac (t : Fin cfg1.N) (n : Fin 1024) : Fin 14336 :=
  ⟨t.val / 16 * 1024 + n.val, by have h : cfg1.N = 224 := N_1; have := t.isLt; omega⟩

/-! The input blocks, read at an index. -/

/-- The differences. -/
theorem iblk1_0_at (c : Dev nD) (t : Fin cfg1.N) (p : Fin 1024) (n : Fin 3840) :
    iblk1 V c 0 t (ix2 p n) = V c main_v1_1 (ix2 (ar t p) n) := by
  unfold ar
  blk_simp [iblk1]
  congr 1
  blk_ext [(idx1 t).1]

/-- The rows' last 256 entries. -/
theorem iblk1_1_at (c : Dev nD) (t : Fin cfg1.N) (p : Fin 1024) (n : Fin 256) :
    iblk1 V c 1 t (ix2 p n) = V c main_v0 (ix2 (ar t p) ⟨3840 + n.val, by omega⟩) := by
  unfold ar
  blk_simp [iblk1]
  congr 1
  blk_ext [(idx1 t).2.1]

/-- The packed weights. -/
theorem iblk1_2_at (c : Dev nD) (t : Fin cfg1.N) (p : Fin 1920) (n : Fin 1024) :
    iblk1 V c 2 t (ix2 p n) = V c main_arg1 (ix2 p (ac t n)) := by
  unfold ac
  blk_simp [iblk1]
  congr 1
  blk_ext [(idx1 t).2.2.1]

/-- The weights' scales. -/
theorem iblk1_3_at (c : Dev nD) (t : Fin cfg1.N) (p : Fin 1) (n : Fin 1024) :
    iblk1 V c 3 t (ix2 p n) = V c main_v2 (ix2 p (ac t n)) := by
  unfold ac
  blk_simp [iblk1]
  congr 1
  blk_ext [(idx1 t).2.2.2.1]

/-- The unquantised weights. -/
theorem iblk1_4_at (c : Dev nD) (t : Fin cfg1.N) (p : Fin 256) (n : Fin 1024) :
    iblk1 V c 4 t (ix2 p n) = V c main_arg3 (ix2 p (ac t n)) := by
  unfold ac
  blk_simp [iblk1]
  congr 1
  blk_ext [(idx1 t).2.2.2.2.1]

/-- The rows' scales. -/
theorem iblk1_5_at (c : Dev nD) (t : Fin cfg1.N) (p : Fin 1024) (n : Fin 1) :
    iblk1 V c 5 t (ix2 p n) = V c main_v1_2 (ix2 (ar t p) n) := by
  unfold ar
  blk_simp [iblk1]
  congr 1
  blk_ext [(idx1 t).2.2.2.2.2.1]

/-- The rows' shifts. -/
theorem iblk1_6_at (c : Dev nD) (t : Fin cfg1.N) (p : Fin 1024) (n : Fin 1) :
    iblk1 V c 6 t (ix2 p n) = V c main_v1_4 (ix2 (ar t p) n) := by
  unfold ar
  blk_simp [iblk1]
  congr 1
  blk_ext [(idx1 t).2.2.2.2.2.2.1]

/-- The scratch holds the block of unpacked weights. -/
theorem sc0_at (b : IVec S1920x1024 8) (k : Fin 3840) (n : Fin 1024) :
    sc0 (F := Ideal) b (ix2 k n) = ((Blocks.wt (fun i => b (ix2 i n)) k : ℝ) : EReal) := by
  unfold sc0
  rw [View.canon_unit_zero hz2', View.ld_unit_zero hz2']
  exact (Blocks.k1_pay2_at (k1_pay1 (F := Ideal) b) k n).trans (Blocks.k1_pay1_at b k n)

/-- The other scratch holds their columns' sums. -/
theorem sc1_at (b : IVec S1920x1024 8) (q : Fin 1) (n : Fin 1024) :
    sc1 (F := Ideal) b (ix2 q n) = ∑ k : Fin 3840, ((Blocks.wt (fun i => b (ix2 i n)) k : ℝ) : EReal) := by
  unfold sc1
  rw [View.canon_unit_zero hz2', View.ld_unit_zero hz2']
  exact (Blocks.k1_pay3_at (k1_pay1 (F := Ideal) b) q n).trans
    (Finset.sum_congr rfl fun k _ => Blocks.k1_pay1_at b k n)

/-- The result's entry `(r, j)`, from the arrays the call reads: the row's differences `q` against the column's weights,
    scaled, plus the row's shift `sh` against the column's sum, plus the row's last 256 entries `x` against the
    unquantised weights. -/
def outAt (q : FVec Ideal S16384x3840 .fp8e4m3) (x : FVec Ideal S16384x4096 .bf16) (w : IVec S1920x14336 8)
    (ws : FVec Ideal S1x14336 .f32) (wo : FVec Ideal S256x14336 .bf16) (sc sh : FVec Ideal S16384x1 .f32)
    (r : Fin 16384) (j : Fin 14336) : EReal :=
  sc (ix2 r 0) * ws (ix2 0 j) * (∑ k : Fin 3840, q (ix2 r k) * ((Blocks.wt (fun i => w (ix2 i j)) k : ℝ) : EReal))
    + sh (ix2 r 0) * (ws (ix2 0 j) * ∑ k : Fin 3840, ((Blocks.wt (fun i => w (ix2 i j)) k : ℝ) : EReal))
    + ∑ k : Fin 256, x (ix2 r ⟨3840 + k.val, by omega⟩) * wo (ix2 k j)

/-- The call's result array. -/
theorem final1_7 (c : Dev nD) : (dat1 V c).arrAt 7 cfg1.N
    = fun i : S16384x14336.Idx => outAt (V c main_v1_1) (V c main_v0) (V c main_arg1) (V c main_v2) (V c main_arg3)
        (V c main_v1_2) (V c main_v1_4) (i 0) (i 1) := by
  refine (dat1 V c).arrAt_eq_of_covers 7 _ (by decide +kernel) fun t _ y => ?_
  blk_simp
  rw [after1_7]
  unfold out1_7
  rw [View.canon_unit_zero hz2', View.ld_unit_zero (S := S1024x3840) hz2', View.ld_unit_zero (S := S3840x1024) hz2',
    View.ld_unit_zero (S := S1024x256) hz2', View.ld_unit_zero (S := S256x1024) hz2', View.ld_unit_zero (S := S1x1024) hz2',
    View.ld_unit_zero (S := S1024x1) hz2', View.ld_unit_zero (S := S1024x1) hz2', View.ld_unit_zero (S := S1x1024) hz2']
  idx_vars y
  have e0 : ((View.whole main_v3).slice (win1_7.rect t)).emb (ix2 y0 y1) 0 = ar t y0 :=
    Fin.ext (by unfold ar; blk_simp [(idx1 t).2.2.2.2.2.2.2])
  have e1 : ((View.whole main_v3).slice (win1_7.rect t)).emb (ix2 y0 y1) 1 = ac t y1 :=
    Fin.ext (by unfold ac; blk_simp [(idx1 t).2.2.2.2.2.2.2])
  rw [e0, e1, Blocks.k1_pay4_at]
  unfold outAt
  simp only [iblk1_0_at, iblk1_1_at, iblk1_3_at, iblk1_4_at, iblk1_5_at, iblk1_6_at, sc0_at, sc1_at, iblk1_2_at]

end Cert.KernelIdeal.Hand

end
-- ==== Proof.Value.Results.lean ====
/- The kernel's results at the extended reals, read at an index, as functions of @main's arguments. -/
module

public import proofs.«01_k».proof.Proof.IdealRun.Run
public import proofs.«01_k».proof.Proof.Value.Region0
public import proofs.«01_k».proof.Proof.Value.Region1
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- @main's arguments on device `c`. -/
abbrev aX : FVec Ideal S8x2048x4096 .bf16 := m ((c : Thread nD τ).loc main_arg0)
abbrev aW : IVec S1920x14336 8 := m ((c : Thread nD τ).loc main_arg1)
abbrev aS : FVec Ideal S14336 .f32 := m ((c : Thread nD τ).loc main_arg2)
abbrev aO : FVec Ideal S256x14336 .bf16 := m ((c : Thread nD τ).loc main_arg3)

/-! ## The host's reshapes -/

theorem W1_v0 : W1 m c (Proc.devRef .tc main_v0) = shapeCast S16384x4096 (aX m c) shapeCasts_S8x2048x4096_S16384x4096 := by
  after_results; rfl
theorem W3_v2 : W3 m c (Proc.devRef .tc main_v2) = shapeCast S1x14336 (W2 m c (Proc.devRef .tc main_arg2)) shapeCasts_S14336_S1x14336 := by
  after_results; rfl
theorem W5_v4 : W5 m c (Proc.devRef .tc main_v4) = shapeCast S8x2048x14336 (W4 m c (Proc.devRef .tc main_v3)) shapeCasts_S16384x14336_S8x2048x14336 := by
  after_results; rfl
theorem W5_v5 : W5 m c (Proc.devRef .tc main_v5) = shapeCast S8x2048x3840 (W4 m c (Proc.devRef .tc main_v1_0)) shapeCasts_S16384x3840_S8x2048x3840 := by
  after_results; rfl
theorem W5_v6 : W5 m c (Proc.devRef .tc main_v6) = shapeCast S8x2048 (W4 m c (Proc.devRef .tc main_v1_2)) shapeCasts_S16384x1_S8x2048 := by
  after_results; rfl
theorem W5_v7 : W5 m c (Proc.devRef .tc main_v7) = shapeCast S8x2048 (W4 m c (Proc.devRef .tc main_v1_3)) shapeCasts_S16384x1_S8x2048 := by
  after_results; rfl

/-! ## The calls' arrays -/

theorem V1_v0 : V1 m c main_v0 = shapeCast S16384x4096 (aX m c) shapeCasts_S8x2048x4096_S16384x4096 := W1_v0 m c
theorem W2_v1_0 : W2 m c (Proc.devRef .tc main_v1_0) = (dat0 (V1 m) c).arrAt 1 cfg0.N := W2_arr m c 1
theorem W2_v1_1 : W2 m c (Proc.devRef .tc main_v1_1) = (dat0 (V1 m) c).arrAt 2 cfg0.N := W2_arr m c 2
theorem W2_v1_2 : W2 m c (Proc.devRef .tc main_v1_2) = (dat0 (V1 m) c).arrAt 3 cfg0.N := W2_arr m c 3
theorem W2_v1_3 : W2 m c (Proc.devRef .tc main_v1_3) = (dat0 (V1 m) c).arrAt 4 cfg0.N := W2_arr m c 4
theorem W2_v1_4 : W2 m c (Proc.devRef .tc main_v1_4) = (dat0 (V1 m) c).arrAt 5 cfg0.N := W2_arr m c 5
theorem W2_v0 : W2 m c (Proc.devRef .tc main_v0) = shapeCast S16384x4096 (aX m c) shapeCasts_S8x2048x4096_S16384x4096 :=
  (W2_of m c main_v0 (by decide +kernel)).trans (W1_v0 m c)
theorem W2_arg1 : W2 m c (Proc.devRef .tc main_arg1) = aW m c :=
  (W2_of m c main_arg1 (by decide +kernel)).trans (W1_of m c main_arg1 (by decide +kernel))
theorem W2_arg2 : W2 m c (Proc.devRef .tc main_arg2) = aS m c :=
  (W2_of m c main_arg2 (by decide +kernel)).trans (W1_of m c main_arg2 (by decide +kernel))
theorem W2_arg3 : W2 m c (Proc.devRef .tc main_arg3) = aO m c :=
  (W2_of m c main_arg3 (by decide +kernel)).trans (W1_of m c main_arg3 (by decide +kernel))

/-- What the second call finds. -/
theorem V3_v0 : V3 m c main_v0 = shapeCast S16384x4096 (aX m c) shapeCasts_S8x2048x4096_S16384x4096 :=
  (W3_of m c main_v0 (by decide +kernel)).trans (W2_v0 m c)
theorem V3_v2 : V3 m c main_v2 = shapeCast S1x14336 (aS m c) shapeCasts_S14336_S1x14336 :=
  (W3_v2 m c).trans (by rw [W2_arg2])
theorem V3_arg1 : V3 m c main_arg1 = aW m c := (W3_of m c main_arg1 (by decide +kernel)).trans (W2_arg1 m c)
theorem V3_arg3 : V3 m c main_arg3 = aO m c := (W3_of m c main_arg3 (by decide +kernel)).trans (W2_arg3 m c)
theorem V3_v1_1 : V3 m c main_v1_1 = (dat0 (V1 m) c).arrAt 2 cfg0.N := (W3_of m c main_v1_1 (by decide +kernel)).trans (W2_v1_1 m c)
theorem V3_v1_2 : V3 m c main_v1_2 = (dat0 (V1 m) c).arrAt 3 cfg0.N := (W3_of m c main_v1_2 (by decide +kernel)).trans (W2_v1_2 m c)
theorem V3_v1_4 : V3 m c main_v1_4 = (dat0 (V1 m) c).arrAt 5 cfg0.N := (W3_of m c main_v1_4 (by decide +kernel)).trans (W2_v1_4 m c)

/-- What the second call leaves. -/
theorem W4_v3 : W4 m c (Proc.devRef .tc main_v3) = (dat1 (V3 m) c).arrAt 7 cfg1.N := W4_arr m c 7
theorem W4_v1_0 : W4 m c (Proc.devRef .tc main_v1_0) = (dat0 (V1 m) c).arrAt 1 cfg0.N :=
  (W4_of m c main_v1_0 (by decide +kernel)).trans ((W3_of m c main_v1_0 (by decide +kernel)).trans (W2_v1_0 m c))
theorem W4_v1_2 : W4 m c (Proc.devRef .tc main_v1_2) = (dat0 (V1 m) c).arrAt 3 cfg0.N :=
  (W4_of m c main_v1_2 (by decide +kernel)).trans (V3_v1_2 m c)
theorem W4_v1_3 : W4 m c (Proc.devRef .tc main_v1_3) = (dat0 (V1 m) c).arrAt 4 cfg0.N :=
  (W4_of m c main_v1_3 (by decide +kernel)).trans ((W3_of m c main_v1_3 (by decide +kernel)).trans (W2_v1_3 m c))

/-! ## The reshapes at an index -/

/-- The row of the flat array that row `r` of batch `b` is. -/
def fr (b : Fin 8) (r : Fin 2048) : Fin 16384 := ⟨b.val * 2048 + r.val, by omega⟩
/-- The quantised part of row `r` of batch `b`. -/
def rowA (x : FVec Ideal S8x2048x4096 .bf16) (b : Fin 8) (r : Fin 2048) : Fin 3840 → EReal := fun k => x (ix3 b r ⟨k.val, by omega⟩)

theorem flat_at (x : FVec Ideal S8x2048x4096 .bf16) (b : Fin 8) (r : Fin 2048) (k : Fin 4096) :
    shapeCast S16384x4096 x shapeCasts_S8x2048x4096_S16384x4096 (ix2 (fr b r) k) = x (ix3 b r k) := by
  pointwise [fr]
theorem flat_row (x : FVec Ideal S8x2048x4096 .bf16) (b : Fin 8) (r : Fin 2048) :
    rowOf (shapeCast S16384x4096 x shapeCasts_S8x2048x4096_S16384x4096) (fr b r) = rowA x b r :=
  funext fun k => flat_at x b r _
theorem unflat_y (v : FVec Ideal S16384x14336 .bf16) (b : Fin 8) (r : Fin 2048) (j : Fin 14336) :
    shapeCast S8x2048x14336 v shapeCasts_S16384x14336_S8x2048x14336 (ix3 b r j) = v (ix2 (fr b r) j) := by
  pointwise [fr]
theorem unflat_q (v : IVec S16384x3840 8) (b : Fin 8) (r : Fin 2048) (k : Fin 3840) :
    shapeCast S8x2048x3840 v shapeCasts_S16384x3840_S8x2048x3840 (ix3 b r k) = v (ix2 (fr b r) k) := by
  pointwise [fr]
theorem unflat_c (v : FVec Ideal S16384x1 .f32) (b : Fin 8) (r : Fin 2048) :
    shapeCast S8x2048 v shapeCasts_S16384x1_S8x2048 (ix2 b r) = v (ix2 (fr b r) 0) := by
  pointwise [fr]
theorem scales_at (v : FVec Ideal S14336 .f32) (j : Fin 14336) :
    shapeCast S1x14336 v shapeCasts_S14336_S1x14336 (ix2 0 j) = v (ix1 j) := by
  pointwise []

/-! ## The results -/

/-- Result 2: the codes. -/
theorem codes_at (b : Fin 8) (r : Fin 2048) (k : Fin 3840) :
    (W5 m c (Proc.devRef .tc main_v5) : IVec S8x2048x3840 8) (ix3 b r k) = Rows.byte (Rows.code (rowA (aX m c) b r) k) := by
  rw [W5_v5, unflat_q, W4_v1_0, final0_1, V1_v0]
  show Rows.byte (Rows.code (rowOf _ (fr b r)) k) = _
  rw [flat_row]
/-- Result 3: the scales. -/
theorem scale_at (b : Fin 8) (r : Fin 2048) :
    (W5 m c (Proc.devRef .tc main_v6) : FVec Ideal S8x2048 .f32) (ix2 b r) = Rows.scale (rowA (aX m c) b r) := by
  rw [W5_v6, unflat_c, W4_v1_2, final0_3, V1_v0]
  show Rows.scale (rowOf _ (fr b r)) = _
  rw [flat_row]
/-- Result 4: the least values. -/
theorem zero_at (b : Fin 8) (r : Fin 2048) :
    (W5 m c (Proc.devRef .tc main_v7) : FVec Ideal S8x2048 .f32) (ix2 b r) = Rows.mn (rowA (aX m c) b r) := by
  rw [W5_v7, unflat_c, W4_v1_3, final0_4, V1_v0]
  show Rows.mn (rowOf _ (fr b r)) = _
  rw [flat_row]

/-- The arrays the second call reads, at row `r` of batch `b`. -/
theorem q_at (b : Fin 8) (r : Fin 2048) (k : Fin 3840) : (V3 m c main_v1_1 : FVec Ideal S16384x3840 .fp8e4m3) (ix2 (fr b r) k)
    = Rows.code (rowA (aX m c) b r) k - Rows.zp (rowA (aX m c) b r) := by
  rw [V3_v1_1, final0_2, V1_v0]
  show Rows.code (rowOf _ (fr b r)) k - Rows.zp (rowOf _ (fr b r)) = _
  rw [flat_row]
theorem sc_at (b : Fin 8) (r : Fin 2048) : (V3 m c main_v1_2 : FVec Ideal S16384x1 .f32) (ix2 (fr b r) 0) = Rows.scale (rowA (aX m c) b r) := by
  rw [V3_v1_2, final0_3, V1_v0]
  show Rows.scale (rowOf _ (fr b r)) = _
  rw [flat_row]
theorem sh_at (b : Fin 8) (r : Fin 2048) : (V3 m c main_v1_4 : FVec Ideal S16384x1 .f32) (ix2 (fr b r) 0)
    = Rows.scale (rowA (aX m c) b r) * Rows.zp (rowA (aX m c) b r) + Rows.mn (rowA (aX m c) b r) := by
  rw [V3_v1_4, final0_5, V1_v0]
  show Rows.scale (rowOf _ (fr b r)) * Rows.zp (rowOf _ (fr b r)) + Rows.mn (rowOf _ (fr b r)) = _
  rw [flat_row]

/-- Result 1: the product, from the differences and the shifts. -/
theorem y_at (b : Fin 8) (r : Fin 2048) (j : Fin 14336) :
    (W5 m c (Proc.devRef .tc main_v4) : FVec Ideal S8x2048x14336 .bf16) (ix3 b r j)
      = Rows.scale (rowA (aX m c) b r) * aS m c (ix1 j)
          * (∑ k : Fin 3840, (Rows.code (rowA (aX m c) b r) k - Rows.zp (rowA (aX m c) b r))
              * ((Blocks.wt (fun i => aW m c (ix2 i j)) k : ℝ) : EReal))
        + (Rows.scale (rowA (aX m c) b r) * Rows.zp (rowA (aX m c) b r) + Rows.mn (rowA (aX m c) b r))
          * (aS m c (ix1 j) * ∑ k : Fin 3840, ((Blocks.wt (fun i => aW m c (ix2 i j)) k : ℝ) : EReal))
        + ∑ k : Fin 256, aX m c (ix3 b r ⟨3840 + k.val, by omega⟩) * aO m c (ix2 k j) := by
  rw [W5_v4, unflat_y, W4_v3, final1_7]
  show outAt (V3 m c main_v1_1) (V3 m c main_v0) (V3 m c main_arg1) (V3 m c main_v2) (V3 m c main_arg3)
        (V3 m c main_v1_2) (V3 m c main_v1_4) (fr b r) j = _
  unfold outAt
  rw [sc_at, sh_at, V3_v2, scales_at, V3_arg1, V3_arg3, V3_v0]
  simp only [flat_at]
  have hs : ∀ u : Fin 3840 → EReal,
      (∑ k : Fin 3840, (show EReal from V3 m c main_v1_1 (ix2 (fr b r) k)) * u k)
        = ∑ k : Fin 3840, (Rows.code (rowA (aX m c) b r) k - Rows.zp (rowA (aX m c) b r)) * u k :=
    fun u => Finset.sum_congr rfl fun k _ => congrArg (· * u k) (q_at m c b r k)
  exact congrArg (fun t => Rows.scale (rowA (aX m c) b r) * aS m c (ix1 j) * t + _ + _)
    (hs fun k => ((Blocks.wt (fun i => aW m c (ix2 i j)) k : ℝ) : EReal))

end Cert.KernelIdeal.Hand

end
-- ==== Proof.Value.Reference.lean ====
/- The reference's results, read at an index: the same row quantiser, and the product of the codes with the unpacked
   weights. -/
module

public import proofs.«01_k».proof.Proof.Gen.ReferenceIdeal.Run
public import proofs.«01_k».proof.Proof.Value.Rows
public import proofs.«01_k».proof.Proof.Value.Blocks

@[expose] public section

set_option maxRecDepth 16384

noncomputable section

namespace Cert.RefValue

open Idealize.ShloMosaic Idealize.ShloMosaic.TcCoe Idealize.SL.Sem
open Cert.ReferenceIdeal Cert.ReferenceIdeal.Gen

/-! ## The reference's intermediate values, as it writes them -/

variable (x : FVec Ideal S8x2048x4096 .bf16) (w : IVec S1920x14336 8) (ws : FVec Ideal S14336 .f32) (wo : FVec Ideal S256x14336 .bf16)

/-- The part that is quantised. -/
def xq : FVec Ideal S8x2048x3840 .f32 :=
  extf .f32 (extractStridedSlice S8x2048x3840 ![0, 0, 0] x slices_S8x2048x4096_S8x2048x3840_0_0_0) bitsLt_bf16_f32
/-- Each row's least value. -/
def lo (v : FVec Ideal S8x2048x3840 .f32) : FVec Ideal S8x2048 .f32 :=
  Host.reduce FloatOps.minimumf v (constant S_ .f32 0x7F800000#32) reducesTo_S8x2048x3840_S8x2048_d2 h_S_
/-- Each row's greatest value. -/
def hi (v : FVec Ideal S8x2048x3840 .f32) : FVec Ideal S8x2048 .f32 :=
  Host.reduce FloatOps.maximumf v (constant S_ .f32 0xFF800000#32) reducesTo_S8x2048x3840_S8x2048_d2 h_S_
/-- Each row's scale. -/
def sc (h l : FVec Ideal S8x2048 .f32) : FVec Ideal S8x2048 .f32 :=
  select (cmpf .oeq h l) (broadcastInDim S8x2048 ![] bcast_S_S8x2048 (constant S_ .f32 0x3F800000#32))
    (Host.divf (subf h l) (broadcastInDim S8x2048 ![] bcast_S_S8x2048 (constant S_ .f32 0x41700000#32)))
/-- The codes, as numbers. -/
def codeF (v : FVec Ideal S8x2048x3840 .f32) (l s : FVec Ideal S8x2048 .f32) : FVec Ideal S8x2048x3840 .f32 :=
  minimumf (broadcastInDim S8x2048x3840 ![] bcast_S_S8x2048x3840 (id (constant S_ .f32 0x41700000#32)))
    (maximumf (broadcastInDim S8x2048x3840 ![] bcast_S_S8x2048x3840 (id (constant S_ .f32 0x00000000#32)))
      (Host.roundeven (Host.divf (subf v (broadcastInDim S8x2048x3840 ![0, 1, 2] bcast_S8x2048x1_S8x2048x3840_0_1_2
        (broadcastInDim S8x2048x1 ![0, 1] bcast_S8x2048_S8x2048x1_0_1 l)))
        (broadcastInDim S8x2048x3840 ![0, 1, 2] bcast_S8x2048x1_S8x2048x3840_0_1_2
          (broadcastInDim S8x2048x1 ![0, 1] bcast_S8x2048_S8x2048x1_0_1 s)))))
/-- The codes, as bytes. -/
def codeB (v : FVec Ideal S8x2048x3840 .f32) : IVec S8x2048x3840 8 := trunci 8 (fptosi 32 v) natLt_8_32
/-- The unpacked weights. -/
def wt32 : IVec S3840x14336 32 :=
  shapeCast _ (concatenate S1920x2x14336 1 [⟨S1920x1x14336, (broadcastInDim S1920x1x14336 ![0, 2] bcast_S1920x14336_S1920x1x14336_0_2 (Host.shrsi (Host.shli (extui 32 w natLt_8_32) (broadcastInDim S1920x14336 ![] bcast_S_S1920x14336 (constantI S_ 32 28#32))) (broadcastInDim S1920x14336 ![] bcast_S_S1920x14336 (constantI S_ 32 28#32))))⟩, ⟨S1920x1x14336, (broadcastInDim S1920x1x14336 ![0, 2] bcast_S1920x14336_S1920x1x14336_0_2 (Host.shrsi (Host.shli (extui 32 w natLt_8_32) (broadcastInDim S1920x14336 ![] bcast_S_S1920x14336 (constantI S_ 32 24#32))) (broadcastInDim S1920x14336 ![] bcast_S_S1920x14336 (constantI S_ 32 28#32))))⟩] concatenates_S1920x1x14336_S1920x1x14336_S1920x2x14336_d1) shapeCasts_S1920x2x14336_S3840x14336
/-- The weights' column sums. -/
def colsum (u : IVec S3840x14336 32) : FVec Ideal S14336 .f32 :=
  sitofp .f32 (Host.reduce IntOp.addi u (constantI S_ 32 0#32) reducesTo_S3840x14336_S14336_d0 h_S_)
/-- The result. -/
def out (x : FVec Ideal S8x2048x4096 .bf16) (ws : FVec Ideal S14336 .f32) (wo : FVec Ideal S256x14336 .bf16)
    (l s : FVec Ideal S8x2048 .f32) (b : IVec S8x2048x3840 8) (u : IVec S3840x14336 32) (cs : FVec Ideal S14336 .f32) :
    FVec Ideal S8x2048x14336 .bf16 :=
  truncf .bf16 (addf (addf (mulf (mulf (broadcastInDim S8x2048x14336 ![0, 1, 2] bcast_S8x2048x1_S8x2048x14336_0_1_2 (broadcastInDim S8x2048x1 ![0, 1] bcast_S8x2048_S8x2048x1_0_1 s))
      (broadcastInDim S8x2048x14336 ![0, 1, 2] bcast_S1x1x14336_S8x2048x14336_0_1_2 (broadcastInDim S1x1x14336 ![2] bcast_S14336_S1x1x14336_2 ws)))
      (Host.dotGeneral dot_S8x2048x3840_S3840x14336_S8x2048x14336_2_0_01_1_n_n none (truncf .bf16 (sitofp .f32 (extui 32 b natLt_8_32)) bitsLt_bf16_f32)
        (truncf .bf16 (sitofp .f32 u) bitsLt_bf16_f32)))
      (mulf (broadcastInDim S8x2048x14336 ![0, 1, 2] bcast_S8x2048x1_S8x2048x14336_0_1_2 (broadcastInDim S8x2048x1 ![0, 1] bcast_S8x2048_S8x2048x1_0_1 l))
        (broadcastInDim S8x2048x14336 ![0, 1, 2] bcast_S1x1x14336_S8x2048x14336_0_1_2 (broadcastInDim S1x1x14336 ![2] bcast_S14336_S1x1x14336_2 (mulf ws cs)))))
      (Host.dotGeneral dot_S8x2048x256_S256x14336_S8x2048x14336_2_0_01_1_n_n none (extractStridedSlice S8x2048x256 ![0, 0, 3840] x slices_S8x2048x4096_S8x2048x256_0_0_3840) wo)) bitsLt_bf16_f32

/-! ## … read at an index -/

theorem xq_at (b : Fin 8) (r : Fin 2048) (k : Fin 3840) : xq x (ix3 b r k) = x (ix3 b r ⟨k.val, by omega⟩) := by
  pointwise [xq]
theorem lo_at (v : FVec Ideal S8x2048x3840 .f32) (b : Fin 8) (r : Fin 2048) : lo v (ix2 b r) = Rows.mn fun k => v (ix3 b r k) := by
  pointwise [lo, Rows.mn]
theorem hi_at (v : FVec Ideal S8x2048x3840 .f32) (b : Fin 8) (r : Fin 2048) : hi v (ix2 b r) = Rows.mx fun k => v (ix3 b r k) := by
  pointwise [hi, Rows.mx]
theorem sc_at (h l : FVec Ideal S8x2048 .f32) (b : Fin 8) (r : Fin 2048) : sc h l (ix2 b r) = Rows.scaleOf (h (ix2 b r)) (l (ix2 b r)) := by
  pointwise [sc, Rows.scaleOf]
theorem codeF_at (v : FVec Ideal S8x2048x3840 .f32) (l s : FVec Ideal S8x2048 .f32) (b : Fin 8) (r : Fin 2048) (k : Fin 3840) :
    codeF v l s (ix3 b r k) = Rows.codeOf (v (ix3 b r k)) (l (ix2 b r)) (s (ix2 b r)) := by
  pointwise [codeF, Rows.codeOf, Rows.clip, id_eq]
theorem codeB_at (v : FVec Ideal S8x2048x3840 .f32) (b : Fin 8) (r : Fin 2048) (k : Fin 3840) :
    codeB v (ix3 b r k) = Rows.byte (v (ix3 b r k)) := by
  pointwise [codeB, Rows.byte]
  rfl
/-- The low four bits, shifted up and back down in 32 bits or in 8: the same integer. -/
theorem low_nib : ∀ p : BitVec 8, (IntOp.shrsi .host (IntOp.shli .host (p.setWidth 32) 28#32) 28#32).toInt
    = ((p <<< 4).sshiftRight 4).toInt := by decide +kernel
/-- … and the high four bits. -/
theorem high_nib : ∀ p : BitVec 8, (IntOp.shrsi .host (IntOp.shli .host (p.setWidth 32) 24#32) 28#32).toInt
    = (p.sshiftRight 4).toInt := by decide +kernel
theorem wt32_at (k : Fin 3840) (j : Fin 14336) : (wt32 w (ix2 k j)).toInt = Blocks.nib k.val (w (ix2 ⟨k.val / 2, by omega⟩ j)) := by
  pointwise [wt32, Blocks.nib]
  by_cases h : k.val % 2 = 0
  · rw [if_pos h, dif_pos (by omega), low_nib]
  · rw [if_neg h, dif_neg (by omega), high_nib]
/-- A 32-bit sum of at most 3840 integers between -8 and 8 does not overflow. -/
theorem fold_toInt (op : BitVec 32 → BitVec 32 → BitVec 32) [Std.Commutative op] [Std.Associative op] (hop : ∀ a b, op a b = a + b)
    (f : Fin 3840 → BitVec 32) (hf : ∀ k, -8 ≤ (f k).toInt ∧ (f k).toInt ≤ 8) (s : Finset (Fin 3840)) :
    (s.fold op 0#32 f).toInt = ∑ k ∈ s, (f k).toInt ∧ -(8 * (s.card : ℤ)) ≤ (s.fold op 0#32 f).toInt
      ∧ (s.fold op 0#32 f).toInt ≤ 8 * (s.card : ℤ) := by
  induction s using Finset.induction_on with
  | empty => simp
  | insert a s ha ih =>
    obtain ⟨ih, h1, h2⟩ := ih
    have hc : s.card < 3840 := by
      have hne : s ≠ Finset.univ := fun h => ha (by rw [h]; exact Finset.mem_univ a)
      have := Finset.card_lt_card (Finset.ssubset_univ_iff.mpr hne)
      simpa using this
    rw [Finset.fold_insert ha, Finset.sum_insert ha, Finset.card_insert_of_notMem ha, hop, BitVec.toInt_add]
    have := hf a
    rw [Int.bmod_eq_of_le (by omega) (by omega), ih]
    push_cast
    omega
theorem colsum_at (u : IVec S3840x14336 32) (j : Fin 14336) (hu : ∀ k : Fin 3840, -8 ≤ (u (ix2 k j)).toInt ∧ (u (ix2 k j)).toInt ≤ 8) :
    colsum u (ix1 j) = (((∑ k : Fin 3840, (u (ix2 k j)).toInt : ℤ) : ℝ) : EReal) := by
  pointwise [colsum]
  rw [← (fold_toInt IntOp.addi (fun _ _ => rfl) (fun k => u (ix2 k j)) hu Finset.univ).1]
  rfl
theorem out_at (x : FVec Ideal S8x2048x4096 .bf16) (ws : FVec Ideal S14336 .f32) (wo : FVec Ideal S256x14336 .bf16)
    (l s : FVec Ideal S8x2048 .f32) (q : IVec S8x2048x3840 8) (u : IVec S3840x14336 32) (cs : FVec Ideal S14336 .f32) (b : Fin 8) (r : Fin 2048) (j : Fin 14336) :
    out x ws wo l s q u cs (ix3 b r j)
      = s (ix2 b r) * ws (ix1 j) * (∑ k : Fin 3840, ((((q (ix3 b r k)).setWidth 32).toInt : ℝ) : EReal) * (((u (ix2 k j)).toInt : ℝ) : EReal))
        + l (ix2 b r) * (ws (ix1 j) * cs (ix1 j)) + ∑ k : Fin 256, x (ix3 b r ⟨3840 + k.val, by omega⟩) * wo (ix2 k j) := by
  have hs : ∀ v : BitVec 32, FloatOps.sitofp (F := Ideal) FTy.f32 v = ((v.toInt : ℝ) : EReal) := fun _ => rfl
  pointwise [out, hs]

/-! ## The run's results are these -/

set_option maxHeartbeats 1000000 in
theorem res_eq (m : (ℓ : Loc nD τ sig) → Buf (Elt Ideal) ℓ) (c : Dev nD) :
    Value.res_out0 m c = out (m ((c.tc : Thread nD τ).loc main_arg0)) (m ((c.tc : Thread nD τ).loc main_arg2)) (m ((c.tc : Thread nD τ).loc main_arg3))
      (lo (xq (m ((c.tc : Thread nD τ).loc main_arg0)))) (sc (hi (xq (m ((c.tc : Thread nD τ).loc main_arg0)))) (lo (xq (m ((c.tc : Thread nD τ).loc main_arg0)))))
      (codeB (codeF (xq (m ((c.tc : Thread nD τ).loc main_arg0))) (lo (xq (m ((c.tc : Thread nD τ).loc main_arg0))))
        (sc (hi (xq (m ((c.tc : Thread nD τ).loc main_arg0)))) (lo (xq (m ((c.tc : Thread nD τ).loc main_arg0)))))))
      (wt32 (m ((c.tc : Thread nD τ).loc main_arg1))) (colsum (wt32 (m ((c.tc : Thread nD τ).loc main_arg1)))) := rfl

end Cert.RefValue

end
-- ==== Proof.Value.Math.lean ====
/- The mathematics of the claim, about extended reals and integers alone: the codes are integers between 0 and 15, sums of
   finitely many four-bit integers do not overflow 32 bits, and subtracting each row's zero point before the product and
   adding it back after does not change the result, infinite inputs included. -/
module

public import proofs.«01_k».proof.Proof.Value.Rows
public import proofs.«01_k».proof.Proof.Value.Blocks

@[expose] public section

set_option maxRecDepth 16384

noncomputable section

namespace Cert.Math

open Idealize.ShloMosaic Cert.Rows

/-! ## The constants -/

theorem c15_eq : c15 = ((15 : ℝ) : EReal) := by
  simp [c15, Ideal.ofBits, Ideal.ieee]
  rw [← EReal.coe_mul]
  norm_num
theorem inf_eq : Ideal.ofBits .f32 0x7F800000#32 = ⊤ := by
  simp [Ideal.ofBits, Ideal.ieee]
theorem ninf_eq : Ideal.ofBits .f32 0xFF800000#32 = ⊥ := by
  simp [Ideal.ofBits, Ideal.ieee]

/-! ## The codes -/

theorem clip_coe (r : ℝ) : clip (r : EReal) = ((min 15 (max 0 ((Ideal.roundHalfEven r : ℤ) : ℝ)) : ℝ) : EReal) := by
  have hmono : Monotone (fun x : ℝ => (x : EReal)) := fun _ _ h => EReal.coe_le_coe_iff.mpr h
  have h1 := hmono.map_min (a := 15) (b := max 0 ((Ideal.roundHalfEven r : ℤ) : ℝ))
  have h2 := hmono.map_max (a := 0) (b := ((Ideal.roundHalfEven r : ℤ) : ℝ))
  unfold clip
  rw [c15_eq, Ideal.liftRound_coe, h1, h2, EReal.coe_zero]
theorem clip_top : clip ⊤ = ((15 : ℝ) : EReal) := by
  unfold clip; rw [c15_eq, Ideal.liftRound_top]; simp
theorem clip_bot : clip ⊥ = 0 := by
  unfold clip; rw [c15_eq, Ideal.liftRound_bot, max_eq_left bot_le, min_eq_right]
  exact EReal.coe_nonneg.mpr (by norm_num)
theorem clip_zero : clip 0 = 0 := by
  have h : Ideal.roundHalfEven 0 = 0 := by simp [Ideal.roundHalfEven]
  rw [← EReal.coe_zero, clip_coe, h]; norm_num

/-- A value rounded and clipped is an integer from 0 to 15. -/
theorem clip_int (y : EReal) : ∃ n : ℕ, n ≤ 15 ∧ clip y = ((n : ℝ) : EReal) := by
  induction y using EReal.rec with
  | bot => exact ⟨0, by norm_num, by rw [clip_bot]; simp⟩
  | top => exact ⟨15, by norm_num, by rw [clip_top]; norm_num⟩
  | coe r =>
    refine ⟨(min 15 (max 0 (Ideal.roundHalfEven r))).toNat, by omega, ?_⟩
    have h : ((min 15 (max 0 (Ideal.roundHalfEven r))).toNat : ℤ) = min 15 (max 0 (Ideal.roundHalfEven r)) := by omega
    have h' : (((min 15 (max 0 (Ideal.roundHalfEven r))).toNat : ℕ) : ℝ) = min 15 (max 0 ((Ideal.roundHalfEven r : ℤ) : ℝ)) := by
      rw [← Int.cast_natCast, h]; push_cast; rfl
    rw [h', clip_coe]

/-- A code stored as a byte and read back as a number is the code. -/
theorem byte_code (n : ℕ) (h : n ≤ 15) : ((((byte ((n : ℝ) : EReal)).setWidth 32).toInt : ℝ) : EReal) = ((n : ℝ) : EReal) := by
  have e : Ideal.fptosi 32 (((n : ℝ)) : EReal) = BitVec.ofInt 32 n := by
    unfold Ideal.fptosi
    rw [Ideal.toIntClamped_coe, if_pos (Nat.cast_nonneg n), Int.floor_natCast]
    congr 1
    norm_num
    omega
  have e' : ((byte ((n : ℝ) : EReal)).setWidth 32).toInt = (n : ℤ) := by
    unfold byte
    rw [e]
    interval_cases n <;> decide
  rw [e']; norm_cast

/-! ## Subtracting the zero point before the product and adding it back after -/

theorem coe_sum {ι : Type*} (s : Finset ι) (f : ι → ℝ) : ((∑ k ∈ s, f k : ℝ) : EReal) = ∑ k ∈ s, (f k : EReal) := by
  induction s using Finset.cons_induction with
  | empty => simp
  | cons a s ha ih => rw [Finset.sum_cons, Finset.sum_cons, EReal.coe_add, ih]

variable {ι : Type} [Fintype ι] (c w : ι → ℝ) (z : ℝ) (ws : ℝ) (side : EReal)

/-- Real scale and least value. -/
theorem combine_real (s l : ℝ) :
    (s : EReal) * ws * (∑ k, ((c k : EReal) - (z : EReal)) * (w k : EReal)) + ((s : EReal) * z + l) * (ws * ∑ k, (w k : EReal)) + side
      = (s : EReal) * ws * (∑ k, (c k : EReal) * (w k : EReal)) + l * (ws * ∑ k, (w k : EReal)) + side := by
  refine congrArg (· + side) ?_
  simp only [← EReal.coe_sub, ← EReal.coe_mul, ← coe_sum, ← EReal.coe_add]
  refine congrArg Real.toEReal ?_
  simp only [sub_mul, Finset.sum_sub_distrib, ← Finset.mul_sum]
  ring

/-- All codes and the zero point zero, whatever the scale and the least value. -/
theorem combine_zero (s l : EReal) :
    s * ws * (∑ k, ((0 : EReal) - (0 : EReal)) * (w k : EReal)) + (s * 0 + l) * (ws * ∑ k, (w k : EReal)) + side
      = s * ws * (∑ k, (0 : EReal) * (w k : EReal)) + l * (ws * ∑ k, (w k : EReal)) + side := by
  simp

/-- Unit scale, least value minus infinity, all codes zero. -/
theorem combine_bot :
    (1 : EReal) * ws * (∑ k, ((0 : EReal) - (z : EReal)) * (w k : EReal)) + ((1 : EReal) * z + ⊥) * (ws * ∑ k, (w k : EReal)) + side
      = (1 : EReal) * ws * (∑ k, (0 : EReal) * (w k : EReal)) + ⊥ * (ws * ∑ k, (w k : EReal)) + side := by
  refine congrArg (· + side) ?_
  have e : (1 : EReal) * ws * (∑ k, ((0 : EReal) - (z : EReal)) * (w k : EReal)) = ((-(z * (ws * ∑ k, w k)) : ℝ) : EReal) := by
    rw [← EReal.coe_one, ← EReal.coe_zero]
    simp only [← EReal.coe_sub, ← EReal.coe_mul, ← coe_sum]
    refine congrArg Real.toEReal ?_
    simp only [sub_mul, zero_mul, zero_sub, Finset.sum_neg_distrib, ← Finset.mul_sum]
    ring
  rw [e, EReal.add_bot]
  simp only [← coe_sum, ← EReal.coe_mul, zero_mul, Finset.sum_const_zero, mul_zero, zero_add]
  generalize ws * ∑ k, w k = r
  rcases lt_trichotomy r 0 with h | h | h
  · rw [EReal.bot_mul_coe_of_neg h, EReal.coe_add_top]
  · subst h; simp
  · rw [EReal.bot_mul_coe_of_pos h, EReal.add_bot]

/-! ## … for a row -/

section
variable (v : Fin 3840 → EReal) (w : Fin 3840 → ℝ)

theorem mn_le (k : Fin 3840) : mn v ≤ v k := by
  unfold mn
  exact (Finset.le_fold_min _).mp le_rfl |>.2 k (Finset.mem_univ k)
theorem le_mx (k : Fin 3840) : v k ≤ mx v := by
  unfold mx
  exact (Finset.fold_max_le _).mp le_rfl |>.2 k (Finset.mem_univ k)

/-- Division by an infinite scale gives zero. -/
theorem div_top (y : EReal) : Ideal.div y ⊤ = 0 := by
  unfold Ideal.div; rw [if_neg EReal.top_ne_zero, EReal.inv_top, mul_zero]
theorem div_one (y : EReal) : Ideal.div y 1 = y := by
  rw [← EReal.coe_one, Ideal.div_coe one_ne_zero]; simp

theorem ereal_cases (x : EReal) : x = ⊥ ∨ x = ⊤ ∨ ∃ r : ℝ, x = r := by
  induction x using EReal.rec with
  | bot => exact .inl rfl
  | top => exact .inr (.inl rfl)
  | coe r => exact .inr (.inr ⟨r, rfl⟩)

/-- THE IDENTITY: subtracting the row's zero point from its codes before the product with the weights and adding
    `scale * zp` to the least value after gives the result without either. -/
theorem combine :
    scale v * ws * (∑ k, (code v k - zp v) * (w k : EReal)) + (scale v * zp v + mn v) * (ws * ∑ k, (w k : EReal)) + side
      = scale v * ws * (∑ k, code v k * (w k : EReal)) + mn v * (ws * ∑ k, (w k : EReal)) + side := by
  choose n _ hn using fun k => clip_int (Ideal.div (v k - mn v) (scale v))
  obtain ⟨z, _, hz⟩ := clip_int (Ideal.div (0 - mn v) (scale v))
  have hcode : ∀ k, code v k = (((n k : ℕ) : ℝ) : EReal) := hn
  have hzp : zp v = (((z : ℕ) : ℝ) : EReal) := hz
  -- every code zero, and the zero point
  have hzero : (∀ k, code v k = 0) → zp v = 0 → (scale v * ws * (∑ k, (code v k - zp v) * (w k : EReal)) + (scale v * zp v + mn v) * (ws * ∑ k, (w k : EReal)) + side
      = scale v * ws * (∑ k, code v k * (w k : EReal)) + mn v * (ws * ∑ k, (w k : EReal)) + side) := fun h0 h1 => by
    simp only [h0, h1]
    exact combine_zero w ws side (scale v) (mn v)
  -- an infinite scale
  have htop : scale v = ⊤ → (scale v * ws * (∑ k, (code v k - zp v) * (w k : EReal)) + (scale v * zp v + mn v) * (ws * ∑ k, (w k : EReal)) + side
      = scale v * ws * (∑ k, code v k * (w k : EReal)) + mn v * (ws * ∑ k, (w k : EReal)) + side) := fun hs => hzero
    (fun k => by unfold code codeOf; rw [hs, div_top, clip_zero]) (by unfold zp codeOf; rw [hs, div_top, clip_zero])
  have hle : mn v ≤ mx v := (mn_le v 0).trans (le_mx v 0)
  have hscale : scale v = if mx v = mn v then 1 else (mx v - mn v) * ((1 / 15 : ℝ) : EReal) := by
    unfold scale scaleOf; rw [c15_eq, Ideal.div_coe (by norm_num)]
  have hpos : (0 : ℝ) < 1 / 15 := by norm_num
  rcases ereal_cases (mn v) with hl | hl | ⟨l, hl⟩
  · by_cases hm : mx v = ⊥
    · -- every entry minus infinity
      have hs : scale v = 1 := by rw [hscale, if_pos (hm.trans hl.symm)]
      have h0 : ∀ k, code v k = 0 := fun k => by
        have : v k = ⊥ := le_bot_iff.mp (hm ▸ le_mx v k)
        unfold code codeOf; rw [hs, div_one, this, EReal.bot_sub, clip_bot]
      simp only [h0, hzp, hs, hl]
      exact combine_bot w _ ws side
    · refine htop ?_
      rw [hscale, if_neg (by rw [hl]; exact hm), hl, sub_eq_add_neg, EReal.neg_bot, EReal.add_top_of_ne_bot hm,
        EReal.top_mul_coe_of_pos hpos]
  · have hm : mx v = ⊤ := top_le_iff.mp (hl ▸ hle)
    have hs : scale v = 1 := by rw [hscale, if_pos (hm.trans hl.symm)]
    exact hzero (fun k => by unfold code codeOf; rw [hs, div_one, hl, EReal.sub_top, clip_bot])
      (by unfold zp codeOf; rw [hs, div_one, hl, EReal.sub_top, clip_bot])
  · rcases ereal_cases (mx v) with hm | hm | ⟨h, hm⟩
    · rw [hl, hm] at hle; exact absurd (le_bot_iff.mp hle) (EReal.coe_ne_bot l)
    · refine htop ?_
      rw [hscale, hm, hl, if_neg (EReal.coe_ne_top l).symm, EReal.top_sub_coe, EReal.top_mul_coe_of_pos hpos]
    · have hs : ∃ s : ℝ, scale v = s := by
        rw [hscale, hm, hl]
        split
        · exact ⟨1, rfl⟩
        · exact ⟨(h - l) * (1 / 15), by rw [EReal.coe_mul, EReal.coe_sub]⟩
      obtain ⟨s, hs⟩ := hs
      simp only [hcode, hzp, hs, hl]
      exact combine_real (fun k => ((n k : ℕ) : ℝ)) w _ ws side s l
end

end Cert.Math

end
-- ==== Proof.Value.Algebraic.lean ====
/- The two programs leave the same four results: the codes, scales and least values entry by entry, the product by the
   identity of `Cert.Math.combine`, for finite weight scales. -/
module

public import proofs.«01_k».proof.Defs
public import proofs.«01_k».proof.Proof.Value.Results
public import proofs.«01_k».proof.Proof.Value.Reference
public import proofs.«01_k».proof.Proof.Value.Math

@[expose] public section

set_option maxRecDepth 16384

noncomputable section

namespace Cert.Algebraic

open Idealize.ShloMosaic Idealize.ShloMosaic.TcCoe Idealize.SL.Sem
open Cert.KernelIdeal.Hand (rowA)
open Cert.RefValue
open Cert.ReferenceIdeal (S8x2048x4096 S1920x14336 S14336 S256x14336 S8x2048 S8x2048x3840 S8x2048x14336 S3840x14336)

/-! ## The reference's results as functions of the arguments -/

variable (x : FVec Ideal S8x2048x4096 .bf16) (w : IVec S1920x14336 8) (ws : FVec Ideal S14336 .f32) (wo : FVec Ideal S256x14336 .bf16)
variable (b : Fin 8) (r : Fin 2048) (k : Fin 3840) (j : Fin 14336)

theorem ref_row : (fun k => xq x (ix3 b r k)) = rowA x b r := funext fun k => xq_at x b r k
/-- Its least values. -/
theorem ref_lo : lo (xq x) (ix2 b r) = Rows.mn (rowA x b r) := (lo_at _ b r).trans (by rw [ref_row])
/-- Its greatest values. -/
theorem ref_hi : hi (xq x) (ix2 b r) = Rows.mx (rowA x b r) := (hi_at _ b r).trans (by rw [ref_row])
/-- Its scales. -/
theorem ref_sc : sc (hi (xq x)) (lo (xq x)) (ix2 b r) = Rows.scale (rowA x b r) :=
  (sc_at _ _ b r).trans (by rw [ref_hi, ref_lo, Rows.scale])
/-- Its codes, as numbers. -/
theorem ref_codeF : codeF (xq x) (lo (xq x)) (sc (hi (xq x)) (lo (xq x))) (ix3 b r k) = Rows.code (rowA x b r) k :=
  (codeF_at _ _ _ b r k).trans (by rw [xq_at, ref_lo, ref_sc, Rows.code, rowA])
/-- The codes, as bytes. -/
def refCodes : IVec S8x2048x3840 8 := codeB (codeF (xq x) (lo (xq x)) (sc (hi (xq x)) (lo (xq x))))
theorem ref_codes : refCodes x (ix3 b r k) = Rows.byte (Rows.code (rowA x b r) k) :=
  (codeB_at _ b r k).trans (by rw [ref_codeF])
/-- A code read back from its byte. -/
theorem ref_code_num : ((((refCodes x (ix3 b r k)).setWidth 32).toInt : ℝ) : EReal) = Rows.code (rowA x b r) k := by
  rw [ref_codes]
  have h : ∃ n : ℕ, n ≤ 15 ∧ Rows.code (rowA x b r) k = ((n : ℝ) : EReal) := Math.clip_int _
  obtain ⟨n, hn, e⟩ := h
  rw [e]
  exact Math.byte_code n hn

/-- A four-bit integer is between -8 and 7. -/
theorem nib_bounds (h : ℕ) (p : BitVec 8) : -8 ≤ Blocks.nib h p ∧ Blocks.nib h p ≤ 8 := by
  have e : ∀ p : BitVec 8, (-8 ≤ ((p <<< 4).sshiftRight 4).toInt ∧ ((p <<< 4).sshiftRight 4).toInt ≤ 8)
      ∧ (-8 ≤ (p.sshiftRight 4).toInt ∧ (p.sshiftRight 4).toInt ≤ 8) := by decide +kernel
  unfold Blocks.nib
  split
  · exact (e p).1
  · exact (e p).2
/-- A weight, as the kernel's column function writes it. -/
theorem ref_wt : (((wt32 w (ix2 k j)).toInt : ℝ) : EReal) = ((Blocks.wt (fun i => w (ix2 i j)) k : ℝ) : EReal) := by
  rw [wt32_at, Blocks.wt]
/-- The weights' column sums. -/
theorem ref_colsum : colsum (wt32 w) (ix1 j) = ∑ k : Fin 3840, ((Blocks.wt (fun i => w (ix2 i j)) k : ℝ) : EReal) := by
  rw [colsum_at _ j fun k => by rw [wt32_at]; exact nib_bounds _ _, Int.cast_sum, Math.coe_sum]
  exact Finset.sum_congr rfl fun k _ => ref_wt w k j

/-- The reference's product. -/
def refY : FVec Ideal S8x2048x14336 .bf16 :=
  out x ws wo (lo (xq x)) (sc (hi (xq x)) (lo (xq x))) (refCodes x) (wt32 w) (colsum (wt32 w))
theorem ref_y : refY x w ws wo (ix3 b r j)
    = Rows.scale (rowA x b r) * ws (ix1 j) * (∑ k : Fin 3840, Rows.code (rowA x b r) k * ((Blocks.wt (fun i => w (ix2 i j)) k : ℝ) : EReal))
      + Rows.mn (rowA x b r) * (ws (ix1 j) * ∑ k : Fin 3840, ((Blocks.wt (fun i => w (ix2 i j)) k : ℝ) : EReal))
      + ∑ k : Fin 256, x (ix3 b r ⟨3840 + k.val, by omega⟩) * wo (ix2 k j) := by
  have hs : (∑ k : Fin 3840, ((((refCodes x (ix3 b r k)).setWidth 32).toInt : ℝ) : EReal) * (((wt32 w (ix2 k j)).toInt : ℝ) : EReal))
      = ∑ k : Fin 3840, Rows.code (rowA x b r) k * ((Blocks.wt (fun i => w (ix2 i j)) k : ℝ) : EReal) :=
    Finset.sum_congr rfl fun k _ => by rw [ref_code_num, ref_wt]
  exact (out_at _ _ _ _ _ _ _ _ b r j).trans (by rw [hs, ref_lo, ref_sc, ref_colsum])

/-! ## The precondition -/

instance preFacts : Cert.Pre_scales_finite.Facts where
  bcast_S_S14336 := by decide

/-- Under the precondition every weight scale is a real number. -/
theorem scales_real (h : Cert.Pre_scales_finite.fn (F := Ideal) x w ws wo = fun _ => 1#1) : ∃ s : ℝ, ws (ix1 j) = (s : EReal) := by
  have e : (Cert.Pre_scales_finite.fn (F := Ideal) x w ws wo) (ix1 j) = 1#1 := by rw [h]
  have e' : (Cert.Pre_scales_finite.fn (F := Ideal) x w ws wo) (ix1 j)
      = if max (ws (ix1 j)) (-(ws (ix1 j))) < Ideal.ofBits .f32 0x7F800000#32 then 1#1 else 0#1 := by
    pointwise [Cert.Pre_scales_finite.fn]
    have ho : ∀ p : Prop, [Decidable p] → BitVec.ofBool (decide p) = if p then 1#1 else 0#1 := fun p _ => by by_cases h : p <;> simp [h]
    exact ho _
  rw [e', Math.inf_eq] at e
  rcases Math.ereal_cases (ws (ix1 j)) with hw | hw | hw
  · rw [hw] at e; simp at e
  · rw [hw] at e; simp at e
  · exact hw

/-! ## The kernel's results are the reference's -/

section
open Cert.KernelIdeal.Hand (aX aW aS aO W5 codes_at scale_at zero_at y_at)

variable (m : (ℓ : Loc KernelIdeal.nD KernelIdeal.τ KernelIdeal.sig) → Buf (Elt Ideal) ℓ) (c : Dev KernelIdeal.nD)

theorem codes_eq : W5 m c (Proc.devRef .tc KernelIdeal.main_v5) = refCodes (aX m c) := by
  funext (i : S8x2048x3840.Idx)
  rw [eq_ix3 i]
  exact (codes_at m c (i 0) (i 1) (i 2)).trans (ref_codes _ _ _ _).symm
theorem scale_eq : W5 m c (Proc.devRef .tc KernelIdeal.main_v6) = sc (hi (xq (aX m c))) (lo (xq (aX m c))) := by
  funext (i : S8x2048.Idx)
  rw [eq_ix2 i]
  exact (scale_at m c (i 0) (i 1)).trans (ref_sc _ _ _).symm
theorem zero_eq : W5 m c (Proc.devRef .tc KernelIdeal.main_v7) = lo (xq (aX m c)) := by
  funext (i : S8x2048.Idx)
  rw [eq_ix2 i]
  exact (zero_at m c (i 0) (i 1)).trans (ref_lo _ _ _).symm
/-- The products, by the identity, where the weight scales are real. -/
theorem y_eq (h : ∀ j : Fin 14336, ∃ s : ℝ, aS m c (ix1 j) = (s : EReal)) :
    W5 m c (Proc.devRef .tc KernelIdeal.main_v4) = refY (aX m c) (aW m c) (aS m c) (aO m c) := by
  funext (i : S8x2048x14336.Idx)
  rw [eq_ix3 i]
  refine (y_at m c (i 0) (i 1) (i 2)).trans (Eq.trans ?_ (ref_y _ _ _ _ _ _ _).symm)
  obtain ⟨s, hs⟩ := h (i 2)
  rw [hs]
  exact Math.combine s _ (rowA (aX m c) (i 0) (i 1)) (Blocks.wt fun t => aW m c (ix2 t (i 2)))

end

/-! ## The claim -/

/-- From memories that agree on the arguments, with finite weight scales, both programs leave the same four results. -/
theorem algebraic : Cert.algebraic_KernelIdeal_ReferenceIdeal_pre_scales_finite
    (hKernelIdeal := Cert.KernelIdeal.Gen.facts) (hReferenceIdeal := Cert.ReferenceIdeal.Gen.facts) (hPre_scales_finite := preFacts) := by
  intro m g m' g' hpre hargs
  refine ⟨fun c => refY (KernelIdeal.Hand.aX m c) (KernelIdeal.Hand.aW m c) (KernelIdeal.Hand.aS m c) (KernelIdeal.Hand.aO m c),
    fun c => refCodes (KernelIdeal.Hand.aX m c),
    fun c => sc (hi (xq (KernelIdeal.Hand.aX m c))) (lo (xq (KernelIdeal.Hand.aX m c))),
    fun c => lo (xq (KernelIdeal.Hand.aX m c)), ?_, ?_⟩
  · refine (θ_run _ _ _).mono (fun _ h c => ?_) (KernelIdeal.Hand.run m g)
    have hr := fun b hb => h.1 c _ (KernelIdeal.Hand.mem_uc b hb)
    exact ⟨(hr KernelIdeal.main_v4 (by decide)).trans (y_eq m c fun j => scales_real _ _ _ _ j (hpre c)),
      (hr KernelIdeal.main_v5 (by decide)).trans (codes_eq m c),
      (hr KernelIdeal.main_v6 (by decide)).trans (scale_eq m c),
      (hr KernelIdeal.main_v7 (by decide)).trans (zero_eq m c),
      (hr KernelIdeal.main_arg0 (by decide)).trans (KernelIdeal.Hand.W5_args m c KernelIdeal.main_arg0 (by decide)),
      (hr KernelIdeal.main_arg1 (by decide)).trans (KernelIdeal.Hand.W5_args m c KernelIdeal.main_arg1 (by decide)),
      (hr KernelIdeal.main_arg2 (by decide)).trans (KernelIdeal.Hand.W5_args m c KernelIdeal.main_arg2 (by decide)),
      (hr KernelIdeal.main_arg3 (by decide)).trans (KernelIdeal.Hand.W5_args m c KernelIdeal.main_arg3 (by decide))⟩
  · refine (θ_run _ _ _).mono (fun _ h c => ?_) (Cert.ReferenceIdeal.Value.run m' g')
    obtain ⟨e0, e1, e2, e3⟩ := hargs c
    obtain ⟨h1, h2, h3, h4, h5⟩ := h c
    have hy : refY (m' ((c.tc : Thread ReferenceIdeal.nD ReferenceIdeal.τ).loc ReferenceIdeal.main_arg0))
          (m' ((c.tc : Thread ReferenceIdeal.nD ReferenceIdeal.τ).loc ReferenceIdeal.main_arg1))
          (m' ((c.tc : Thread ReferenceIdeal.nD ReferenceIdeal.τ).loc ReferenceIdeal.main_arg2))
          (m' ((c.tc : Thread ReferenceIdeal.nD ReferenceIdeal.τ).loc ReferenceIdeal.main_arg3))
        = refY (KernelIdeal.Hand.aX m c) (KernelIdeal.Hand.aW m c) (KernelIdeal.Hand.aS m c) (KernelIdeal.Hand.aO m c) :=
      congr (congr (congr (congrArg refY e0) e1) e2) e3
    exact ⟨h1.trans ((res_eq m' c).trans hy),
      h2.trans (congrArg refCodes e0),
      h3.trans (congrArg (fun t => sc (hi (xq t)) (lo (xq t))) e0),
      h4.trans (congrArg (fun t => lo (xq t)) e0), h5⟩

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.KernelRun.Run
public import proofs.«01_k».proof.Proof.IdealRun.Run
public import proofs.«01_k».proof.Proof.Value.Algebraic
public import Idealize.ShloMosaic.Adequacy
public import Idealize.ShloMosaic.Init

@[expose] public section

noncomputable section

namespace Cert.Proof

open Idealize.ShloMosaic Idealize.SL.Sem Cert.Kernel

/-- The reference runs, leaves its arguments unchanged, and declares no semaphore. -/
theorem reference_frame (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal))) ⟨m, fun _ => 0, g⟩ (fun r =>
      (∀ c : Dev ReferenceIdeal.nD,
        r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1)
        ∧ r.2.mem ((c.tc : Thread ReferenceIdeal.nD ReferenceIdeal.τ).loc ReferenceIdeal.main_arg2) = m ((c.tc : Thread ReferenceIdeal.nD ReferenceIdeal.τ).loc ReferenceIdeal.main_arg2)
        ∧ r.2.mem ((c.tc : Thread ReferenceIdeal.nD ReferenceIdeal.τ).loc ReferenceIdeal.main_arg3) = m ((c.tc : Thread ReferenceIdeal.nD ReferenceIdeal.τ).loc ReferenceIdeal.main_arg3))
      ∧ r.2.sem = fun _ => 0) :=
  (θ_run ReferenceIdeal.defs _ _).mono (fun r h => ⟨fun c => (h c).2.2.2.2, sem_eq_zero_of_no_sems (by decide) r.2⟩)
    (ReferenceIdeal.Value.run m g)

/-- The frames, the idealization, and the equality of the four results. -/
theorem claim : Cert.Claim :=
  ⟨Cert.Kernel.Gen.facts, Cert.KernelIdeal.Gen.facts, Cert.ReferenceIdeal.Gen.facts, Cert.Algebraic.preFacts,
    fun m g _ => Cert.Kernel.Hand.frame m g,
    fun m g _ => Cert.KernelIdeal.Hand.frame m g,
    fun m g _ => Cert.KernelIdeal.Hand.frame m g,
    fun m g _ => reference_frame m g,
    fun m g _ => reference_frame m g,
    trivial,
    Cert.Algebraic.algebraic⟩

end Cert.Proof

end
